-- ==== Defs.lean ====
def Pre_NormQuantX (m : (ℓ : Loc Cert.NormQuantX.nD Cert.NormQuantX.τ Cert.NormQuantX.sig) → Buf (Elt Bits) ℓ) : Prop :=
  True

def Pre_NormQuantXIdeal (m : (ℓ : Loc Cert.NormQuantXIdeal.nD Cert.NormQuantXIdeal.τ Cert.NormQuantXIdeal.sig) → Buf (Elt Ideal) ℓ) : Prop :=
  True

def Pre_NormQuantXRefIdeal (m : (ℓ : Loc Cert.NormQuantXRefIdeal.nD Cert.NormQuantXRefIdeal.τ Cert.NormQuantXRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QuantAttn (m : (ℓ : Loc Cert.QuantAttn.nD Cert.QuantAttn.τ Cert.QuantAttn.sig) → Buf (Elt Bits) ℓ) : Prop :=
  True

def Pre_QuantAttnIdeal (m : (ℓ : Loc Cert.QuantAttnIdeal.nD Cert.QuantAttnIdeal.τ Cert.QuantAttnIdeal.sig) → Buf (Elt Ideal) ℓ) : Prop :=
  True

def Pre_QuantAttnRefIdeal (m : (ℓ : Loc Cert.QuantAttnRefIdeal.nD Cert.QuantAttnRefIdeal.τ Cert.QuantAttnRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_NormQuantH (m : (ℓ : Loc Cert.NormQuantH.nD Cert.NormQuantH.τ Cert.NormQuantH.sig) → Buf (Elt Bits) ℓ) : Prop :=
  True

def Pre_NormQuantHIdeal (m : (ℓ : Loc Cert.NormQuantHIdeal.nD Cert.NormQuantHIdeal.τ Cert.NormQuantHIdeal.sig) → Buf (Elt Ideal) ℓ) : Prop :=
  True

def Pre_NormQuantHRefIdeal (m : (ℓ : Loc Cert.NormQuantHRefIdeal.nD Cert.NormQuantHRefIdeal.τ Cert.NormQuantHRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_QuantAct (m : (ℓ : Loc Cert.QuantAct.nD Cert.QuantAct.τ Cert.QuantAct.sig) → Buf (Elt Bits) ℓ) : Prop :=
  True

def Pre_QuantActIdeal (m : (ℓ : Loc Cert.QuantActIdeal.nD Cert.QuantActIdeal.τ Cert.QuantActIdeal.sig) → Buf (Elt Ideal) ℓ) : Prop :=
  True

def Pre_QuantActRefIdeal (m : (ℓ : Loc Cert.QuantActRefIdeal.nD Cert.QuantActRefIdeal.τ Cert.QuantActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_NormQuantX [hNormQuantX : Cert.NormQuantX.Facts] : Prop :=
  ∀ (m : (ℓ : Loc Cert.NormQuantX.nD Cert.NormQuantX.τ Cert.NormQuantX.sig) → Buf (Elt Bits) ℓ) (g : Dev Cert.NormQuantX.nD → PrngReg), Pre_NormQuantX m →
    θ_run (Cert.NormQuantX.defs (F := Bits)) (onTc (τ := Cert.NormQuantX.τ) (Cert.NormQuantX.main (F := Bits))) ⟨m, fun _ => 0, g⟩ (fun r => (∀ c : Dev Cert.NormQuantX.nD,
      r.2.mem ((c.tc : Thread Cert.NormQuantX.nD Cert.NormQuantX.τ).loc Cert.NormQuantX.main_arg0) = m ((c.tc : Thread Cert.NormQuantX.nD Cert.NormQuantX.τ).loc Cert.NormQuantX.main_arg0)
      ∧ r.2.mem ((c.tc : Thread Cert.NormQuantX.nD Cert.NormQuantX.τ).loc Cert.NormQuantX.main_arg1) = m ((c.tc : Thread Cert.NormQuantX.nD Cert.NormQuantX.τ).loc Cert.NormQuantX.main_arg1))
      ∧ r.2.sem = fun _ => 0)

def quiescent_NormQuantXIdeal [hNormQuantXIdeal : Cert.NormQuantXIdeal.Facts] : Prop :=
  ∀ (m : (ℓ : Loc Cert.NormQuantXIdeal.nD Cert.NormQuantXIdeal.τ Cert.NormQuantXIdeal.sig) → Buf (Elt Ideal) ℓ) (g : Dev Cert.NormQuantXIdeal.nD → PrngReg), Pre_NormQuantXIdeal m →
    θ_run (Cert.NormQuantXIdeal.defs (F := Ideal)) (onTc (τ := Cert.NormQuantXIdeal.τ) (Cert.NormQuantXIdeal.main (F := Ideal))) ⟨m, fun _ => 0, g⟩ (fun r => (∀ c : Dev Cert.NormQuantXIdeal.nD,
      r.2.mem ((c.tc : Thread Cert.NormQuantXIdeal.nD Cert.NormQuantXIdeal.τ).loc Cert.NormQuantXIdeal.main_arg0) = m ((c.tc : Thread Cert.NormQuantXIdeal.nD Cert.NormQuantXIdeal.τ).loc Cert.NormQuantXIdeal.main_arg0)
      ∧ r.2.mem ((c.tc : Thread Cert.NormQuantXIdeal.nD Cert.NormQuantXIdeal.τ).loc Cert.NormQuantXIdeal.main_arg1) = m ((c.tc : Thread Cert.NormQuantXIdeal.nD Cert.NormQuantXIdeal.τ).loc Cert.NormQuantXIdeal.main_arg1))
      ∧ r.2.sem = fun _ => 0)

def quiescent_NormQuantXRefIdeal [hNormQuantXRefIdeal : Cert.NormQuantXRefIdeal.Facts] : Prop :=
  ∀ (m : (ℓ : Loc Cert.NormQuantXRefIdeal.nD Cert.NormQuantXRefIdeal.τ Cert.NormQuantXRefIdeal.sig) → Buf (Elt Ideal) ℓ) (g : Dev Cert.NormQuantXRefIdeal.nD → PrngReg), Pre_NormQuantXRefIdeal m →
    θ_run (Cert.NormQuantXRefIdeal.defs (F := Ideal)) (onTc (τ := Cert.NormQuantXRefIdeal.τ) (Cert.NormQuantXRefIdeal.main (F := Ideal))) ⟨m, fun _ => 0, g⟩ (fun r => (∀ c : Dev Cert.NormQuantXRefIdeal.nD,
      r.2.mem ((c.tc : Thread Cert.NormQuantXRefIdeal.nD Cert.NormQuantXRefIdeal.τ).loc Cert.NormQuantXRefIdeal.main_arg0) = m ((c.tc : Thread Cert.NormQuantXRefIdeal.nD Cert.NormQuantXRefIdeal.τ).loc Cert.NormQuantXRefIdeal.main_arg0)
      ∧ r.2.mem ((c.tc : Thread Cert.NormQuantXRefIdeal.nD Cert.NormQuantXRefIdeal.τ).loc Cert.NormQuantXRefIdeal.main_arg1) = m ((c.tc : Thread Cert.NormQuantXRefIdeal.nD Cert.NormQuantXRefIdeal.τ).loc Cert.NormQuantXRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_QuantAttn [hQuantAttn : Cert.QuantAttn.Facts] : Prop :=
  ∀ (m : (ℓ : Loc Cert.QuantAttn.nD Cert.QuantAttn.τ Cert.QuantAttn.sig) → Buf (Elt Bits) ℓ) (g : Dev Cert.QuantAttn.nD → PrngReg), Pre_QuantAttn m →
    θ_run (Cert.QuantAttn.defs (F := Bits)) (onTc (τ := Cert.QuantAttn.τ) (Cert.QuantAttn.main (F := Bits))) ⟨m, fun _ => 0, g⟩ (fun r => (∀ c : Dev Cert.QuantAttn.nD,
      r.2.mem ((c.tc : Thread Cert.QuantAttn.nD Cert.QuantAttn.τ).loc Cert.QuantAttn.main_arg0) = m ((c.tc : Thread Cert.QuantAttn.nD Cert.QuantAttn.τ).loc Cert.QuantAttn.main_arg0))
      ∧ r.2.sem = fun _ => 0)

def quiescent_QuantAttnIdeal [hQuantAttnIdeal : Cert.QuantAttnIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg), Pre_QuantAttnIdeal m →
    θ_run (Cert.QuantAttnIdeal.defs (F := Ideal)) (onTc (τ := Cert.QuantAttnIdeal.τ) (Cert.QuantAttnIdeal.main (F := Ideal))) ⟨m, fun _ => 0, g⟩ (fun r => (∀ c : Dev Cert.QuantAttnIdeal.nD,
      r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ r.2.sem = fun _ => 0)

def quiescent_QuantAttnRefIdeal [hQuantAttnRefIdeal : Cert.QuantAttnRefIdeal.Facts] : Prop :=
  ∀ (m : (ℓ : Loc Cert.QuantAttnRefIdeal.nD Cert.QuantAttnRefIdeal.τ Cert.QuantAttnRefIdeal.sig) → Buf (Elt Ideal) ℓ) (g : Dev Cert.QuantAttnRefIdeal.nD → PrngReg), Pre_QuantAttnRefIdeal m →
    θ_run (Cert.QuantAttnRefIdeal.defs (F := Ideal)) (onTc (τ := Cert.QuantAttnRefIdeal.τ) (Cert.QuantAttnRefIdeal.main (F := Ideal))) ⟨m, fun _ => 0, g⟩ (fun r => (∀ c : Dev Cert.QuantAttnRefIdeal.nD,
      r.2.mem ((c.tc : Thread Cert.QuantAttnRefIdeal.nD Cert.QuantAttnRefIdeal.τ).loc Cert.QuantAttnRefIdeal.main_arg0) = m ((c.tc : Thread Cert.QuantAttnRefIdeal.nD Cert.QuantAttnRefIdeal.τ).loc Cert.QuantAttnRefIdeal.main_arg0))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_NormQuantH [hNormQuantH : Cert.NormQuantH.Facts] : Prop :=
  ∀ (m : (ℓ : Loc Cert.NormQuantH.nD Cert.NormQuantH.τ Cert.NormQuantH.sig) → Buf (Elt Bits) ℓ) (g : Dev Cert.NormQuantH.nD → PrngReg), Pre_NormQuantH m →
    θ_run (Cert.NormQuantH.defs (F := Bits)) (onTc (τ := Cert.NormQuantH.τ) (Cert.NormQuantH.main (F := Bits))) ⟨m, fun _ => 0, g⟩ (fun r => (∀ c : Dev Cert.NormQuantH.nD,
      r.2.mem ((c.tc : Thread Cert.NormQuantH.nD Cert.NormQuantH.τ).loc Cert.NormQuantH.main_arg0) = m ((c.tc : Thread Cert.NormQuantH.nD Cert.NormQuantH.τ).loc Cert.NormQuantH.main_arg0)
      ∧ r.2.mem ((c.tc : Thread Cert.NormQuantH.nD Cert.NormQuantH.τ).loc Cert.NormQuantH.main_arg1) = m ((c.tc : Thread Cert.NormQuantH.nD Cert.NormQuantH.τ).loc Cert.NormQuantH.main_arg1))
      ∧ r.2.sem = fun _ => 0)

def quiescent_NormQuantHIdeal [hNormQuantHIdeal : Cert.NormQuantHIdeal.Facts] : Prop :=
  ∀ (m : (ℓ : Loc Cert.NormQuantHIdeal.nD Cert.NormQuantHIdeal.τ Cert.NormQuantHIdeal.sig) → Buf (Elt Ideal) ℓ) (g : Dev Cert.NormQuantHIdeal.nD → PrngReg), Pre_NormQuantHIdeal m →
    θ_run (Cert.NormQuantHIdeal.defs (F := Ideal)) (onTc (τ := Cert.NormQuantHIdeal.τ) (Cert.NormQuantHIdeal.main (F := Ideal))) ⟨m, fun _ => 0, g⟩ (fun r => (∀ c : Dev Cert.NormQuantHIdeal.nD,
      r.2.mem ((c.tc : Thread Cert.NormQuantHIdeal.nD Cert.NormQuantHIdeal.τ).loc Cert.NormQuantHIdeal.main_arg0) = m ((c.tc : Thread Cert.NormQuantHIdeal.nD Cert.NormQuantHIdeal.τ).loc Cert.NormQuantHIdeal.main_arg0)
      ∧ r.2.mem ((c.tc : Thread Cert.NormQuantHIdeal.nD Cert.NormQuantHIdeal.τ).loc Cert.NormQuantHIdeal.main_arg1) = m ((c.tc : Thread Cert.NormQuantHIdeal.nD Cert.NormQuantHIdeal.τ).loc Cert.NormQuantHIdeal.main_arg1))
      ∧ r.2.sem = fun _ => 0)

def quiescent_NormQuantHRefIdeal [hNormQuantHRefIdeal : Cert.NormQuantHRefIdeal.Facts] : Prop :=
  ∀ (m : (ℓ : Loc Cert.NormQuantHRefIdeal.nD Cert.NormQuantHRefIdeal.τ Cert.NormQuantHRefIdeal.sig) → Buf (Elt Ideal) ℓ) (g : Dev Cert.NormQuantHRefIdeal.nD → PrngReg), Pre_NormQuantHRefIdeal m →
    θ_run (Cert.NormQuantHRefIdeal.defs (F := Ideal)) (onTc (τ := Cert.NormQuantHRefIdeal.τ) (Cert.NormQuantHRefIdeal.main (F := Ideal))) ⟨m, fun _ => 0, g⟩ (fun r => (∀ c : Dev Cert.NormQuantHRefIdeal.nD,
      r.2.mem ((c.tc : Thread Cert.NormQuantHRefIdeal.nD Cert.NormQuantHRefIdeal.τ).loc Cert.NormQuantHRefIdeal.main_arg0) = m ((c.tc : Thread Cert.NormQuantHRefIdeal.nD Cert.NormQuantHRefIdeal.τ).loc Cert.NormQuantHRefIdeal.main_arg0)
      ∧ r.2.mem ((c.tc : Thread Cert.NormQuantHRefIdeal.nD Cert.NormQuantHRefIdeal.τ).loc Cert.NormQuantHRefIdeal.main_arg1) = m ((c.tc : Thread Cert.NormQuantHRefIdeal.nD Cert.NormQuantHRefIdeal.τ).loc Cert.NormQuantHRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_QuantAct [hQuantAct : Cert.QuantAct.Facts] : Prop :=
  ∀ (m : (ℓ : Loc Cert.QuantAct.nD Cert.QuantAct.τ Cert.QuantAct.sig) → Buf (Elt Bits) ℓ) (g : Dev Cert.QuantAct.nD → PrngReg), Pre_QuantAct m →
    θ_run (Cert.QuantAct.defs (F := Bits)) (onTc (τ := Cert.QuantAct.τ) (Cert.QuantAct.main (F := Bits))) ⟨m, fun _ => 0, g⟩ (fun r => (∀ c : Dev Cert.QuantAct.nD,
      r.2.mem ((c.tc : Thread Cert.QuantAct.nD Cert.QuantAct.τ).loc Cert.QuantAct.main_arg0) = m ((c.tc : Thread Cert.QuantAct.nD Cert.QuantAct.τ).loc Cert.QuantAct.main_arg0))
      ∧ r.2.sem = fun _ => 0)

def quiescent_QuantActIdeal [hQuantActIdeal : Cert.QuantActIdeal.Facts] : Prop :=
  ∀ (m : (ℓ : Loc Cert.QuantActIdeal.nD Cert.QuantActIdeal.τ Cert.QuantActIdeal.sig) → Buf (Elt Ideal) ℓ) (g : Dev Cert.QuantActIdeal.nD → PrngReg), Pre_QuantActIdeal m →
    θ_run (Cert.QuantActIdeal.defs (F := Ideal)) (onTc (τ := Cert.QuantActIdeal.τ) (Cert.QuantActIdeal.main (F := Ideal))) ⟨m, fun _ => 0, g⟩ (fun r => (∀ c : Dev Cert.QuantActIdeal.nD,
      r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ r.2.sem = fun _ => 0)

def quiescent_QuantActRefIdeal [hQuantActRefIdeal : Cert.QuantActRefIdeal.Facts] : Prop :=
  ∀ (m : (ℓ : Loc Cert.QuantActRefIdeal.nD Cert.QuantActRefIdeal.τ Cert.QuantActRefIdeal.sig) → Buf (Elt Ideal) ℓ) (g : Dev Cert.QuantActRefIdeal.nD → PrngReg), Pre_QuantActRefIdeal m →
    θ_run (Cert.QuantActRefIdeal.defs (F := Ideal)) (onTc (τ := Cert.QuantActRefIdeal.τ) (Cert.QuantActRefIdeal.main (F := Ideal))) ⟨m, fun _ => 0, g⟩ (fun r => (∀ c : Dev Cert.QuantActRefIdeal.nD,
      r.2.mem ((c.tc : Thread Cert.QuantActRefIdeal.nD Cert.QuantActRefIdeal.τ).loc Cert.QuantActRefIdeal.main_arg0) = m ((c.tc : Thread Cert.QuantActRefIdeal.nD Cert.QuantActRefIdeal.τ).loc Cert.QuantActRefIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def preserves_NormQuantX_NormQuantXIdeal : Prop :=
  True

def algebraic_NormQuantXIdeal_NormQuantXRefIdeal [hNormQuantXIdeal : Cert.NormQuantXIdeal.Facts] [hNormQuantXRefIdeal : Cert.NormQuantXRefIdeal.Facts] : Prop :=
  ∀ (m : (ℓ : Loc Cert.NormQuantXIdeal.nD Cert.NormQuantXIdeal.τ Cert.NormQuantXIdeal.sig) → Buf (Elt Ideal) ℓ) (g : Dev Cert.NormQuantXIdeal.nD → PrngReg)
    (m' : (ℓ : Loc Cert.NormQuantXRefIdeal.nD Cert.NormQuantXRefIdeal.τ Cert.NormQuantXRefIdeal.sig) → Buf (Elt Ideal) ℓ) (g' : Dev Cert.NormQuantXRefIdeal.nD → PrngReg), Pre_NormQuantXIdeal m →
    (∀ c : Dev Cert.NormQuantXIdeal.nD,
      m' ((c.tc : Thread Cert.NormQuantXRefIdeal.nD Cert.NormQuantXRefIdeal.τ).loc Cert.NormQuantXRefIdeal.main_arg0) = m ((c.tc : Thread Cert.NormQuantXIdeal.nD Cert.NormQuantXIdeal.τ).loc Cert.NormQuantXIdeal.main_arg0)
      ∧ m' ((c.tc : Thread Cert.NormQuantXRefIdeal.nD Cert.NormQuantXRefIdeal.τ).loc Cert.NormQuantXRefIdeal.main_arg1) = m ((c.tc : Thread Cert.NormQuantXIdeal.nD Cert.NormQuantXIdeal.τ).loc Cert.NormQuantXIdeal.main_arg1)) →
    ∃ (v0 : (c : Dev Cert.NormQuantXIdeal.nD) → Buf (Elt Ideal) ((c.tc : Thread Cert.NormQuantXIdeal.nD Cert.NormQuantXIdeal.τ).loc Cert.NormQuantXIdeal.main_v1_0)) (v1 : (c : Dev Cert.NormQuantXIdeal.nD) → Buf (Elt Ideal) ((c.tc : Thread Cert.NormQuantXIdeal.nD Cert.NormQuantXIdeal.τ).loc Cert.NormQuantXIdeal.main_v1_1)),
      θ_run (Cert.NormQuantXIdeal.defs (F := Ideal)) (onTc (τ := Cert.NormQuantXIdeal.τ) (Cert.NormQuantXIdeal.main (F := Ideal))) ⟨m, fun _ => 0, g⟩ (fun r => ∀ c : Dev Cert.NormQuantXIdeal.nD,
          r.2.mem ((c.tc : Thread Cert.NormQuantXIdeal.nD Cert.NormQuantXIdeal.τ).loc Cert.NormQuantXIdeal.main_v1_0) = v0 c
          ∧ r.2.mem ((c.tc : Thread Cert.NormQuantXIdeal.nD Cert.NormQuantXIdeal.τ).loc Cert.NormQuantXIdeal.main_v1_1) = v1 c
          ∧ r.2.mem ((c.tc : Thread Cert.NormQuantXIdeal.nD Cert.NormQuantXIdeal.τ).loc Cert.NormQuantXIdeal.main_arg0) = m ((c.tc : Thread Cert.NormQuantXIdeal.nD Cert.NormQuantXIdeal.τ).loc Cert.NormQuantXIdeal.main_arg0)
          ∧ r.2.mem ((c.tc : Thread Cert.NormQuantXIdeal.nD Cert.NormQuantXIdeal.τ).loc Cert.NormQuantXIdeal.main_arg1) = m ((c.tc : Thread Cert.NormQuantXIdeal.nD Cert.NormQuantXIdeal.τ).loc Cert.NormQuantXIdeal.main_arg1))
      ∧ θ_run (Cert.NormQuantXRefIdeal.defs (F := Ideal)) (onTc (τ := Cert.NormQuantXRefIdeal.τ) (Cert.NormQuantXRefIdeal.main (F := Ideal))) ⟨m', fun _ => 0, g'⟩ (fun r => ∀ c : Dev Cert.NormQuantXRefIdeal.nD,
          r.2.mem ((c.tc : Thread Cert.NormQuantXRefIdeal.nD Cert.NormQuantXRefIdeal.τ).loc Cert.NormQuantXRefIdeal.main_v25) = v0 c
          ∧ r.2.mem ((c.tc : Thread Cert.NormQuantXRefIdeal.nD Cert.NormQuantXRefIdeal.τ).loc Cert.NormQuantXRefIdeal.main_v26) = v1 c
          ∧ r.2.mem ((c.tc : Thread Cert.NormQuantXRefIdeal.nD Cert.NormQuantXRefIdeal.τ).loc Cert.NormQuantXRefIdeal.main_arg0) = m' ((c.tc : Thread Cert.NormQuantXRefIdeal.nD Cert.NormQuantXRefIdeal.τ).loc Cert.NormQuantXRefIdeal.main_arg0)
          ∧ r.2.mem ((c.tc : Thread Cert.NormQuantXRefIdeal.nD Cert.NormQuantXRefIdeal.τ).loc Cert.NormQuantXRefIdeal.main_arg1) = m' ((c.tc : Thread Cert.NormQuantXRefIdeal.nD Cert.NormQuantXRefIdeal.τ).loc Cert.NormQuantXRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3_0) = v0 c
          ∧ r.2.mem ((c.tc : Thread Cert.QkvRefIdeal.nD Cert.QkvRefIdeal.τ).loc Cert.QkvRefIdeal.main_v3_1) = v1 c
          ∧ r.2.mem ((c.tc : Thread Cert.QkvRefIdeal.nD Cert.QkvRefIdeal.τ).loc Cert.QkvRefIdeal.main_v3_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_QuantAttn_QuantAttnIdeal : Prop :=
  True

def algebraic_QuantAttnIdeal_QuantAttnRefIdeal [hQuantAttnIdeal : Cert.QuantAttnIdeal.Facts] [hQuantAttnRefIdeal : Cert.QuantAttnRefIdeal.Facts] : Prop :=
  ∀ (m : (ℓ : Loc Cert.QuantAttnIdeal.nD Cert.QuantAttnIdeal.τ Cert.QuantAttnIdeal.sig) → Buf (Elt Ideal) ℓ) (g : Dev Cert.QuantAttnIdeal.nD → PrngReg)
    (m' : (ℓ : Loc Cert.QuantAttnRefIdeal.nD Cert.QuantAttnRefIdeal.τ Cert.QuantAttnRefIdeal.sig) → Buf (Elt Ideal) ℓ) (g' : Dev Cert.QuantAttnRefIdeal.nD → PrngReg), Pre_QuantAttnIdeal m →
    (∀ c : Dev Cert.QuantAttnIdeal.nD,
      m' ((c.tc : Thread Cert.QuantAttnRefIdeal.nD Cert.QuantAttnRefIdeal.τ).loc Cert.QuantAttnRefIdeal.main_arg0) = m ((c.tc : Thread Cert.QuantAttnIdeal.nD Cert.QuantAttnIdeal.τ).loc Cert.QuantAttnIdeal.main_arg0)) →
    ∃ (v0 : (c : Dev Cert.QuantAttnIdeal.nD) → Buf (Elt Ideal) ((c.tc : Thread Cert.QuantAttnIdeal.nD Cert.QuantAttnIdeal.τ).loc Cert.QuantAttnIdeal.main_v0_0)) (v1 : (c : Dev Cert.QuantAttnIdeal.nD) → Buf (Elt Ideal) ((c.tc : Thread Cert.QuantAttnIdeal.nD Cert.QuantAttnIdeal.τ).loc Cert.QuantAttnIdeal.main_v0_1)),
      θ_run (Cert.QuantAttnIdeal.defs (F := Ideal)) (onTc (τ := Cert.QuantAttnIdeal.τ) (Cert.QuantAttnIdeal.main (F := Ideal))) ⟨m, fun _ => 0, g⟩ (fun r => ∀ c : Dev Cert.QuantAttnIdeal.nD,
          r.2.mem ((c.tc : Thread Cert.QuantAttnIdeal.nD Cert.QuantAttnIdeal.τ).loc Cert.QuantAttnIdeal.main_v0_0) = v0 c
          ∧ r.2.mem ((c.tc : Thread Cert.QuantAttnIdeal.nD Cert.QuantAttnIdeal.τ).loc Cert.QuantAttnIdeal.main_v0_1) = v1 c
          ∧ r.2.mem ((c.tc : Thread Cert.QuantAttnIdeal.nD Cert.QuantAttnIdeal.τ).loc Cert.QuantAttnIdeal.main_arg0) = m ((c.tc : Thread Cert.QuantAttnIdeal.nD Cert.QuantAttnIdeal.τ).loc Cert.QuantAttnIdeal.main_arg0))
      ∧ θ_run (Cert.QuantAttnRefIdeal.defs (F := Ideal)) (onTc (τ := Cert.QuantAttnRefIdeal.τ) (Cert.QuantAttnRefIdeal.main (F := Ideal))) ⟨m', fun _ => 0, g'⟩ (fun r => ∀ c : Dev Cert.QuantAttnRefIdeal.nD,
          r.2.mem ((c.tc : Thread Cert.QuantAttnRefIdeal.nD Cert.QuantAttnRefIdeal.τ).loc Cert.QuantAttnRefIdeal.main_v11) = v0 c
          ∧ r.2.mem ((c.tc : Thread Cert.QuantAttnRefIdeal.nD Cert.QuantAttnRefIdeal.τ).loc Cert.QuantAttnRefIdeal.main_v12) = v1 c
          ∧ r.2.mem ((c.tc : Thread Cert.QuantAttnRefIdeal.nD Cert.QuantAttnRefIdeal.τ).loc Cert.QuantAttnRefIdeal.main_arg0) = m' ((c.tc : Thread Cert.QuantAttnRefIdeal.nD Cert.QuantAttnRefIdeal.τ).loc Cert.QuantAttnRefIdeal.main_arg0))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v1) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_NormQuantH_NormQuantHIdeal : Prop :=
  True

def algebraic_NormQuantHIdeal_NormQuantHRefIdeal [hNormQuantHIdeal : Cert.NormQuantHIdeal.Facts] [hNormQuantHRefIdeal : Cert.NormQuantHRefIdeal.Facts] : Prop :=
  ∀ (m : (ℓ : Loc Cert.NormQuantHIdeal.nD Cert.NormQuantHIdeal.τ Cert.NormQuantHIdeal.sig) → Buf (Elt Ideal) ℓ) (g : Dev Cert.NormQuantHIdeal.nD → PrngReg)
    (m' : (ℓ : Loc Cert.NormQuantHRefIdeal.nD Cert.NormQuantHRefIdeal.τ Cert.NormQuantHRefIdeal.sig) → Buf (Elt Ideal) ℓ) (g' : Dev Cert.NormQuantHRefIdeal.nD → PrngReg), Pre_NormQuantHIdeal m →
    (∀ c : Dev Cert.NormQuantHIdeal.nD,
      m' ((c.tc : Thread Cert.NormQuantHRefIdeal.nD Cert.NormQuantHRefIdeal.τ).loc Cert.NormQuantHRefIdeal.main_arg0) = m ((c.tc : Thread Cert.NormQuantHIdeal.nD Cert.NormQuantHIdeal.τ).loc Cert.NormQuantHIdeal.main_arg0)
      ∧ m' ((c.tc : Thread Cert.NormQuantHRefIdeal.nD Cert.NormQuantHRefIdeal.τ).loc Cert.NormQuantHRefIdeal.main_arg1) = m ((c.tc : Thread Cert.NormQuantHIdeal.nD Cert.NormQuantHIdeal.τ).loc Cert.NormQuantHIdeal.main_arg1)) →
    ∃ (v0 : (c : Dev Cert.NormQuantHIdeal.nD) → Buf (Elt Ideal) ((c.tc : Thread Cert.NormQuantHIdeal.nD Cert.NormQuantHIdeal.τ).loc Cert.NormQuantHIdeal.main_v1_0)) (v1 : (c : Dev Cert.NormQuantHIdeal.nD) → Buf (Elt Ideal) ((c.tc : Thread Cert.NormQuantHIdeal.nD Cert.NormQuantHIdeal.τ).loc Cert.NormQuantHIdeal.main_v1_1)),
      θ_run (Cert.NormQuantHIdeal.defs (F := Ideal)) (onTc (τ := Cert.NormQuantHIdeal.τ) (Cert.NormQuantHIdeal.main (F := Ideal))) ⟨m, fun _ => 0, g⟩ (fun r => ∀ c : Dev Cert.NormQuantHIdeal.nD,
          r.2.mem ((c.tc : Thread Cert.NormQuantHIdeal.nD Cert.NormQuantHIdeal.τ).loc Cert.NormQuantHIdeal.main_v1_0) = v0 c
          ∧ r.2.mem ((c.tc : Thread Cert.NormQuantHIdeal.nD Cert.NormQuantHIdeal.τ).loc Cert.NormQuantHIdeal.main_v1_1) = v1 c
          ∧ r.2.mem ((c.tc : Thread Cert.NormQuantHIdeal.nD Cert.NormQuantHIdeal.τ).loc Cert.NormQuantHIdeal.main_arg0) = m ((c.tc : Thread Cert.NormQuantHIdeal.nD Cert.NormQuantHIdeal.τ).loc Cert.NormQuantHIdeal.main_arg0)
          ∧ r.2.mem ((c.tc : Thread Cert.NormQuantHIdeal.nD Cert.NormQuantHIdeal.τ).loc Cert.NormQuantHIdeal.main_arg1) = m ((c.tc : Thread Cert.NormQuantHIdeal.nD Cert.NormQuantHIdeal.τ).loc Cert.NormQuantHIdeal.main_arg1))
      ∧ θ_run (Cert.NormQuantHRefIdeal.defs (F := Ideal)) (onTc (τ := Cert.NormQuantHRefIdeal.τ) (Cert.NormQuantHRefIdeal.main (F := Ideal))) ⟨m', fun _ => 0, g'⟩ (fun r => ∀ c : Dev Cert.NormQuantHRefIdeal.nD,
          r.2.mem ((c.tc : Thread Cert.NormQuantHRefIdeal.nD Cert.NormQuantHRefIdeal.τ).loc Cert.NormQuantHRefIdeal.main_v24) = v0 c
          ∧ r.2.mem ((c.tc : Thread Cert.NormQuantHRefIdeal.nD Cert.NormQuantHRefIdeal.τ).loc Cert.NormQuantHRefIdeal.main_v25) = v1 c
          ∧ r.2.mem ((c.tc : Thread Cert.NormQuantHRefIdeal.nD Cert.NormQuantHRefIdeal.τ).loc Cert.NormQuantHRefIdeal.main_arg0) = m' ((c.tc : Thread Cert.NormQuantHRefIdeal.nD Cert.NormQuantHRefIdeal.τ).loc Cert.NormQuantHRefIdeal.main_arg0)
          ∧ r.2.mem ((c.tc : Thread Cert.NormQuantHRefIdeal.nD Cert.NormQuantHRefIdeal.τ).loc Cert.NormQuantHRefIdeal.main_arg1) = m' ((c.tc : Thread Cert.NormQuantHRefIdeal.nD Cert.NormQuantHRefIdeal.τ).loc Cert.NormQuantHRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v1) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_QuantAct_QuantActIdeal : Prop :=
  True

def algebraic_QuantActIdeal_QuantActRefIdeal [hQuantActIdeal : Cert.QuantActIdeal.Facts] [hQuantActRefIdeal : Cert.QuantActRefIdeal.Facts] : Prop :=
  ∀ (m : (ℓ : Loc Cert.QuantActIdeal.nD Cert.QuantActIdeal.τ Cert.QuantActIdeal.sig) → Buf (Elt Ideal) ℓ) (g : Dev Cert.QuantActIdeal.nD → PrngReg)
    (m' : (ℓ : Loc Cert.QuantActRefIdeal.nD Cert.QuantActRefIdeal.τ Cert.QuantActRefIdeal.sig) → Buf (Elt Ideal) ℓ) (g' : Dev Cert.QuantActRefIdeal.nD → PrngReg), Pre_QuantActIdeal m →
    (∀ c : Dev Cert.QuantActIdeal.nD,
      m' ((c.tc : Thread Cert.QuantActRefIdeal.nD Cert.QuantActRefIdeal.τ).loc Cert.QuantActRefIdeal.main_arg0) = m ((c.tc : Thread Cert.QuantActIdeal.nD Cert.QuantActIdeal.τ).loc Cert.QuantActIdeal.main_arg0)) →
    ∃ (v0 : (c : Dev Cert.QuantActIdeal.nD) → Buf (Elt Ideal) ((c.tc : Thread Cert.QuantActIdeal.nD Cert.QuantActIdeal.τ).loc Cert.QuantActIdeal.main_v0_0)) (v1 : (c : Dev Cert.QuantActIdeal.nD) → Buf (Elt Ideal) ((c.tc : Thread Cert.QuantActIdeal.nD Cert.QuantActIdeal.τ).loc Cert.QuantActIdeal.main_v0_1)),
      θ_run (Cert.QuantActIdeal.defs (F := Ideal)) (onTc (τ := Cert.QuantActIdeal.τ) (Cert.QuantActIdeal.main (F := Ideal))) ⟨m, fun _ => 0, g⟩ (fun r => ∀ c : Dev Cert.QuantActIdeal.nD,
          r.2.mem ((c.tc : Thread Cert.QuantActIdeal.nD Cert.QuantActIdeal.τ).loc Cert.QuantActIdeal.main_v0_0) = v0 c
          ∧ r.2.mem ((c.tc : Thread Cert.QuantActIdeal.nD Cert.QuantActIdeal.τ).loc Cert.QuantActIdeal.main_v0_1) = v1 c
          ∧ r.2.mem ((c.tc : Thread Cert.QuantActIdeal.nD Cert.QuantActIdeal.τ).loc Cert.QuantActIdeal.main_arg0) = m ((c.tc : Thread Cert.QuantActIdeal.nD Cert.QuantActIdeal.τ).loc Cert.QuantActIdeal.main_arg0))
      ∧ θ_run (Cert.QuantActRefIdeal.defs (F := Ideal)) (onTc (τ := Cert.QuantActRefIdeal.τ) (Cert.QuantActRefIdeal.main (F := Ideal))) ⟨m', fun _ => 0, g'⟩ (fun r => ∀ c : Dev Cert.QuantActRefIdeal.nD,
          r.2.mem ((c.tc : Thread Cert.QuantActRefIdeal.nD Cert.QuantActRefIdeal.τ).loc Cert.QuantActRefIdeal.main_v11) = v0 c
          ∧ r.2.mem ((c.tc : Thread Cert.QuantActRefIdeal.nD Cert.QuantActRefIdeal.τ).loc Cert.QuantActRefIdeal.main_v12) = v1 c
          ∧ r.2.mem ((c.tc : Thread Cert.QuantActRefIdeal.nD Cert.QuantActRefIdeal.τ).loc Cert.QuantActRefIdeal.main_arg0) = m' ((c.tc : Thread Cert.QuantActRefIdeal.nD Cert.QuantActRefIdeal.τ).loc Cert.QuantActRefIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def Claim : Prop :=
  ∃ (hNormQuantX : Cert.NormQuantX.Facts) (hNormQuantXIdeal : Cert.NormQuantXIdeal.Facts) (hNormQuantXRefIdeal : Cert.NormQuantXRefIdeal.Facts) (hQkv : Cert.Qkv.Facts) (hQkvIdeal : Cert.QkvIdeal.Facts) (hQkvRefIdeal : Cert.QkvRefIdeal.Facts) (hQuantAttn : Cert.QuantAttn.Facts) (hQuantAttnIdeal : Cert.QuantAttnIdeal.Facts) (hQuantAttnRefIdeal : Cert.QuantAttnRefIdeal.Facts) (hOProj : Cert.OProj.Facts) (hOProjIdeal : Cert.OProjIdeal.Facts) (hOProjRefIdeal : Cert.OProjRefIdeal.Facts) (hNormQuantH : Cert.NormQuantH.Facts) (hNormQuantHIdeal : Cert.NormQuantHIdeal.Facts) (hNormQuantHRefIdeal : Cert.NormQuantHRefIdeal.Facts) (hGateUp : Cert.GateUp.Facts) (hGateUpIdeal : Cert.GateUpIdeal.Facts) (hGateUpRefIdeal : Cert.GateUpRefIdeal.Facts) (hQuantAct : Cert.QuantAct.Facts) (hQuantActIdeal : Cert.QuantActIdeal.Facts) (hQuantActRefIdeal : Cert.QuantActRefIdeal.Facts) (hDown : Cert.Down.Facts) (hDownIdeal : Cert.DownIdeal.Facts) (hDownRefIdeal : Cert.DownRefIdeal.Facts),
    quiescent_NormQuantX (hNormQuantX := hNormQuantX)
    ∧ quiescent_NormQuantXIdeal (hNormQuantXIdeal := hNormQuantXIdeal)
    ∧ quiescent_NormQuantXRefIdeal (hNormQuantXRefIdeal := hNormQuantXRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QuantAttn (hQuantAttn := hQuantAttn)
    ∧ quiescent_QuantAttnIdeal (hQuantAttnIdeal := hQuantAttnIdeal)
    ∧ quiescent_QuantAttnRefIdeal (hQuantAttnRefIdeal := hQuantAttnRefIdeal)
    ∧ quiescent_OProj (hOProj := hOProj)
    ∧ quiescent_OProjIdeal (hOProjIdeal := hOProjIdeal)
    ∧ quiescent_OProjRefIdeal (hOProjRefIdeal := hOProjRefIdeal)
    ∧ quiescent_NormQuantH (hNormQuantH := hNormQuantH)
    ∧ quiescent_NormQuantHIdeal (hNormQuantHIdeal := hNormQuantHIdeal)
    ∧ quiescent_NormQuantHRefIdeal (hNormQuantHRefIdeal := hNormQuantHRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_QuantAct (hQuantAct := hQuantAct)
    ∧ quiescent_QuantActIdeal (hQuantActIdeal := hQuantActIdeal)
    ∧ quiescent_QuantActRefIdeal (hQuantActRefIdeal := hQuantActRefIdeal)
    ∧ quiescent_Down (hDown := hDown)
    ∧ quiescent_DownIdeal (hDownIdeal := hDownIdeal)
    ∧ quiescent_DownRefIdeal (hDownRefIdeal := hDownRefIdeal)
    ∧ preserves_NormQuantX_NormQuantXIdeal
    ∧ algebraic_NormQuantXIdeal_NormQuantXRefIdeal (hNormQuantXIdeal := hNormQuantXIdeal) (hNormQuantXRefIdeal := hNormQuantXRefIdeal)
    ∧ preserves_Qkv_QkvIdeal
    ∧ algebraic_QkvIdeal_QkvRefIdeal (hQkvIdeal := hQkvIdeal) (hQkvRefIdeal := hQkvRefIdeal)
    ∧ preserves_QuantAttn_QuantAttnIdeal
    ∧ algebraic_QuantAttnIdeal_QuantAttnRefIdeal (hQuantAttnIdeal := hQuantAttnIdeal) (hQuantAttnRefIdeal := hQuantAttnRefIdeal)
    ∧ preserves_OProj_OProjIdeal
    ∧ algebraic_OProjIdeal_OProjRefIdeal (hOProjIdeal := hOProjIdeal) (hOProjRefIdeal := hOProjRefIdeal)
    ∧ preserves_NormQuantH_NormQuantHIdeal
    ∧ algebraic_NormQuantHIdeal_NormQuantHRefIdeal (hNormQuantHIdeal := hNormQuantHIdeal) (hNormQuantHRefIdeal := hNormQuantHRefIdeal)
    ∧ preserves_GateUp_GateUpIdeal
    ∧ algebraic_GateUpIdeal_GateUpRefIdeal (hGateUpIdeal := hGateUpIdeal) (hGateUpRefIdeal := hGateUpRefIdeal)
    ∧ preserves_QuantAct_QuantActIdeal
    ∧ algebraic_QuantActIdeal_QuantActRefIdeal (hQuantActIdeal := hQuantActIdeal) (hQuantActRefIdeal := hQuantActRefIdeal)
    ∧ preserves_Down_DownIdeal
    ∧ algebraic_DownIdeal_DownRefIdeal (hDownIdeal := hDownIdeal) (hDownRefIdeal := hDownRefIdeal)
-- ==== NormQuantX.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S128x8192 : Shape := ⟨2, ![128, 8192]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1536x8192, .bf16⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x1, .f32⟩
  | .local _ .vmem, ⟨6, _⟩ => ⟨S128x1, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormQuantXRefIdeal.lean ====
abbrev S1536x8192 : Shape := ⟨2, ![1536, 8192]⟩
abbrev S8192 : Shape := ⟨1, ![8192]⟩
abbrev S_ : Shape := ⟨0, ![]⟩
abbrev S1536 : Shape := ⟨1, ![1536]⟩
abbrev S1536x1 : Shape := ⟨2, ![1536, 1]⟩
abbrev S1x8192 : Shape := ⟨2, ![1, 8192]⟩

abbrev nBuf : Space → Nat
  | .hbm => 45
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S8192, .f32⟩
  | .hbm, ⟨2, _⟩ => ⟨S1536x8192, .f32⟩
  | .hbm, ⟨3, _⟩ => ⟨S1536x8192, .f32⟩
  | .hbm, ⟨4, _⟩ => ⟨S_, .f32⟩
  | .hbm, ⟨5, _⟩ => ⟨S1536, .f32⟩
  | .hbm, ⟨6, _⟩ => ⟨S1536x1, .f32⟩
  | .hbm, ⟨7, _⟩ => ⟨S_, .f32⟩
  | .hbm, ⟨8, _⟩ => ⟨S1536x1, .f32⟩
  | .hbm, ⟨9, _⟩ => ⟨S1536x1, .f32⟩
  | .hbm, ⟨10, _⟩ => ⟨S_, .f32⟩
  | .hbm, ⟨11, _⟩ => ⟨S1536x1, .f32⟩
  | .hbm, ⟨12, _⟩ => ⟨S1536x1, .f32⟩
  | .hbm, ⟨13, _⟩ => ⟨S1536x1, .f32⟩
  | .hbm, ⟨14, _⟩ => ⟨S1536x8192, .f32⟩
  | .hbm, ⟨15, _⟩ => ⟨S1536x8192, .f32⟩
  | .hbm, ⟨16, _⟩ => ⟨S1x8192, .f32⟩
  | .hbm, ⟨17, _⟩ => ⟨S1536x8192, .f32⟩
  | .hbm, ⟨18, _⟩ => ⟨S1536x8192, .f32⟩
  | .hbm, ⟨19, _⟩ => ⟨S1536x8192, .f32⟩
  | .hbm, ⟨20, _⟩ => ⟨S_, .f32⟩
  | .hbm, ⟨21, _⟩ => ⟨S1536, .f32⟩
  | .hbm, ⟨22, _⟩ => ⟨S_, .f32⟩
  | .hbm, ⟨23, _⟩ => ⟨S1536, .f32⟩
  | .hbm, ⟨24, _⟩ => ⟨S1536, .i1⟩
  | .hbm, ⟨25, _⟩ => ⟨S_, .f32⟩
  | .hbm, ⟨26, _⟩ => ⟨S1536, .f32⟩
  | .hbm, ⟨27, _⟩ => ⟨S1536, .f32⟩
  | .hbm, ⟨28, _⟩ => ⟨S_, .f32⟩
  | .hbm, ⟨29, _⟩ => ⟨S_, .f32⟩
  | .hbm, ⟨30, _⟩ => ⟨S1536, .f32⟩
  | .hbm, ⟨31, _⟩ => ⟨S1536, .f32⟩
  | .hbm, ⟨32, _⟩ => ⟨S1536x1, .f32⟩
  | .hbm, ⟨33, _⟩ => ⟨S1536x8192, .f32⟩
  | .hbm, ⟨34, _⟩ => ⟨S1536x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1536x8192, .f32⟩
  | .hbm, ⟨39, _⟩ => ⟨S1536x8192, .f32⟩
  | .hbm, ⟨40, _⟩ => ⟨S_, .f32⟩
  | .hbm, ⟨41, _⟩ => ⟨S1536x8192, .f32⟩
  | .hbm, ⟨42, _⟩ => ⟨S1536x8192, .f32⟩
  | .hbm, ⟨43, _⟩ => ⟨S1536x8192, .fp8e4m3⟩
  | .hbm, ⟨44, _⟩ => ⟨S1536x1, .f32⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Qkv.lean ====
abbrev S1536x8192 : Shape := ⟨2, ![1536, 8192]⟩
abbrev S1536x1 : Shape := ⟨2, ![1536, 1]⟩
abbrev S1024x2560 : Shape := ⟨2, ![1024, 2560]⟩
abbrev S64x2560 : Shape := ⟨2, ![64, 2560]⟩
abbrev S2560 : Shape := ⟨1, ![2560]⟩
abbrev S3x512x64 : Shape := ⟨3, ![3, 512, 64]⟩
abbrev S2 : Shape := ⟨1, ![2]⟩
abbrev S3x512x128 : Shape := ⟨3, ![3, 512, 128]⟩
abbrev S1536x128 : Shape := ⟨2, ![1536, 128]⟩
abbrev S1x2 : Shape := ⟨2, ![1, 2]⟩
abbrev S2x2 : Shape := ⟨2, ![2, 2]⟩
abbrev S1x2560 : Shape := ⟨2, ![1, 2560]⟩
abbrev S1536x2560 : Shape := ⟨2, ![1536, 2560]⟩
abbrev S1536x256 : Shape := ⟨2, ![1536, 256]⟩
abbrev S512x8192 : Shape := ⟨2, ![512, 8192]⟩
abbrev S512x1 : Shape := ⟨2, ![512, 1]⟩
abbrev S1024x512 : Shape := ⟨2, ![1024, 512]⟩
abbrev S64x512 : Shape := ⟨2, ![64, 512]⟩
abbrev S1x512 : Shape := ⟨2, ![1, 512]⟩
abbrev S512x128 : Shape := ⟨2, ![512, 128]⟩
abbrev S512x512 : Shape := ⟨2, ![512, 512]⟩
abbrev S512x256 : Shape := ⟨2, ![512, 256]⟩
abbrev S8192x512 : Shape := ⟨2, ![8192, 512]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩
abbrev S1x1 : Shape := ⟨2, ![1, 1]⟩

abbrev nBuf : Space → Nat
  | .hbm => 21
  | .vmem => 21
  | .smem => 1
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S3x512x64, .f32⟩
  | .hbm, ⟨6, _⟩ => ⟨S3x512x64, .f32⟩
  | .hbm, ⟨7, _⟩ => ⟨S2, .f32⟩
  | .hbm, ⟨8, _⟩ => ⟨S2, .f32⟩
  | .hbm, ⟨9, _⟩ => ⟨S3x512x128, .f32⟩
  | .hbm, ⟨10, _⟩ => ⟨S1536x128, .f32⟩
  | .hbm, ⟨11, _⟩ => ⟨S3x512x64, .f32⟩
  | .hbm, ⟨12, _⟩ => ⟨S3x512x128, .f32⟩
  | .hbm, ⟨13, _⟩ => ⟨S1536x128, .f32⟩
  | .hbm, ⟨14, _⟩ => ⟨S1x2, .f32⟩
  | .hbm, ⟨15, _⟩ => ⟨S1x2, .f32⟩
  | .hbm, ⟨16, _⟩ => ⟨S2x2, .f32⟩
  | .hbm, ⟨17, _⟩ => ⟨S1x2560, .f32⟩
  | .hbm, ⟨18, _⟩ => ⟨S1536x2560, .bf16⟩
  | .hbm, ⟨19, _⟩ => ⟨S1536x256, .fp8e4m3⟩
  | .hbm, ⟨20, _⟩ => ⟨S1536x256, .fp8e4m3⟩
  | .local _ .vmem, ⟨0, _⟩ => ⟨S512x8192, .fp8e4m3⟩
  | .local _ .vmem, ⟨1, _⟩ => ⟨S512x8192, .fp8e4m3⟩
  | .local _ .vmem, ⟨2, _⟩ => ⟨S512x1, .f32⟩
  | .local _ .vmem, ⟨3, _⟩ => ⟨S512x1, .f32⟩
  | .local _ .vmem, ⟨4, _⟩ => ⟨S1024x512, .i32⟩
  | .local _ .vmem, ⟨5, _⟩ => ⟨S1024x512, .i32⟩
  | .local _ .vmem, ⟨6, _⟩ => ⟨S64x512, .fp8e4m3⟩
  | .local _ .vmem, ⟨7, _⟩ => ⟨S64x512, .fp8e4m3⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x256, .fp8e4m3⟩
  | .local _ .vmem, ⟨17, _⟩ => ⟨S512x256, .fp8e4m3⟩
  | .local _ .vmem, ⟨18, _⟩ => ⟨S512x256, .fp8e4m3⟩
  | .local _ .vmem, ⟨19, _⟩ => ⟨S512x256, .fp8e4m3⟩
  | .local _ .vmem, ⟨20, _⟩ => ⟨S8192x512, .bf16⟩
  | .local _ .smem, ⟨0, _⟩ => ⟨S2x2, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![5, 3], ![false, false]⟩

def k0_cond2 (i : grid0.Coords) : BitVec 1 :=
  let arg0 : BitVec 32 := BitVec.ofNat 32 (i 0).val
  let c4_i32 : BitVec 32 := 4#32
  let v46 : BitVec 1 := Scalar.cmpi .eq arg0 c4_i32
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .smem S2x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkvRefIdeal.lean ====
abbrev S1536x8192 : Shape := ⟨2, ![1536, 8192]⟩
abbrev S1536x1 : Shape := ⟨2, ![1536, 1]⟩
abbrev S1024x2560 : Shape := ⟨2, ![1024, 2560]⟩
abbrev S64x2560 : Shape := ⟨2, ![64, 2560]⟩
abbrev S2560 : Shape := ⟨1, ![2560]⟩
abbrev S3x512x64 : Shape := ⟨3, ![3, 512, 64]⟩
abbrev S2 : Shape := ⟨1, ![2]⟩
abbrev S1x2560 : Shape := ⟨2, ![1, 2560]⟩
abbrev S1x2 : Shape := ⟨2, ![1, 2]⟩
abbrev S1536x2560 : Shape := ⟨2, ![1536, 2560]⟩
abbrev S1536x256 : Shape := ⟨2, ![1536, 256]⟩
abbrev S1536 : Shape := ⟨1, ![1536]⟩
abbrev S1x1024x2560 : Shape := ⟨3, ![1, 1024, 2560]⟩
abbrev S8x1024x2560 : Shape := ⟨3, ![8, 1024, 2560]⟩
abbrev S64x1x2560 : Shape := ⟨3, ![64, 1, 2560]⟩
abbrev S64x16x2560 : Shape := ⟨3, ![64, 16, 2560]⟩
abbrev S1536x1024x8 : Shape := ⟨3, ![1536, 1024, 8]⟩
abbrev S3x512x20x128 : Shape := ⟨4, ![3, 512, 20, 128]⟩
abbrev S3x512x1x64 : Shape := ⟨4, ![3, 512, 1, 64]⟩
abbrev S3x512x20x64 : Shape := ⟨4, ![3, 512, 20, 64]⟩
abbrev S3x512x2x128 : Shape := ⟨4, ![3, 512, 2, 128]⟩
abbrev S2x1 : Shape := ⟨2, ![2, 1]⟩
abbrev S1x1x2x1 : Shape := ⟨4, ![1, 1, 2, 1]⟩

abbrev nBuf : Space → Nat
  | .hbm => 15
  | .vmem => 12
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S3x512x64, .f32⟩
  | .hbm, ⟨6, _⟩ => ⟨S3x512x64, .f32⟩
  | .hbm, ⟨7, _⟩ => ⟨S2, .f32⟩
  | .hbm, ⟨8, _⟩ => ⟨S2, .f32⟩
  | .hbm, ⟨9, _⟩ => ⟨S1x2560, .f32⟩
  | .hbm, ⟨10, _⟩ => ⟨S1x2, .f32⟩
  | .hbm, ⟨11, _⟩ => ⟨S1x2, .f32⟩
  | .hbm, ⟨12, _⟩ => ⟨S1536x2560, .bf16⟩
  | .hbm, ⟨13, _⟩ => ⟨S1536x256, .fp8e4m3⟩
  | .hbm, ⟨14, _⟩ => ⟨S1536x256, .fp8e4m3⟩
  | .local _ .vmem, ⟨0, _⟩ => ⟨S1536x8192, .fp8e4m3⟩
  | .local _ .vmem, ⟨1, _⟩ => ⟨S1536x1, .f32⟩
  | .local _ .vmem, ⟨2, _⟩ => ⟨S1024x2560, .i32⟩
  | .local _ .vmem, ⟨3, _⟩ => ⟨S64x2560, .fp8e4m3⟩
  | .local _ .vmem, ⟨4, _⟩ => ⟨S1x2560, .f32⟩
  | .local _ .vmem, ⟨5, _⟩ => ⟨S3x512x64, .f32⟩
  | .local _ .vmem, ⟨6, _⟩ => ⟨S3x512x64, .f32⟩
  | .local _ .vmem, ⟨7, _⟩ => ⟨S1x2, .f32⟩
  | .local _ .vmem, ⟨8, _⟩ => ⟨S1x2, .f32⟩
  | .local _ .vmem, ⟨9, _⟩ => ⟨S1536x2560, .bf16⟩
  | .local _ .vmem, ⟨10, _⟩ => ⟨S1536x256, .fp8e4m3⟩
  | .local _ .vmem, ⟨11, _⟩ => ⟨S1536x256, .fp8e4m3⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== QuantAttn.lean ====
abbrev S1536x2048 : Shape := ⟨2, ![1536, 2048]⟩
abbrev S1536x1 : Shape := ⟨2, ![1536, 1]⟩
abbrev S256x2048 : Shape := ⟨2, ![256, 2048]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S1536x2048, .f32⟩
  | .hbm, ⟨1, _⟩ => ⟨S1536x2048, .fp8e4m3⟩
  | .hbm, ⟨2, _⟩ => ⟨S1536x1, .f32⟩
  | .local _ .vmem, ⟨0, _⟩ => ⟨S256x2048, .f32⟩
  | .local _ .vmem, ⟨1, _⟩ => ⟨S256x2048, .f32⟩
  | .local _ .vmem, ⟨2, _⟩ => ⟨S256x2048, .fp8e4m3⟩
  | .local _ .vmem, ⟨3, _⟩ => ⟨S256x2048, .fp8e4m3⟩
  | .local _ .vmem, ⟨4, _⟩ => ⟨S256x1, .f32⟩
  | .local _ .vmem, ⟨5, _⟩ => ⟨S256x1, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantAttnRefIdeal.lean ====
abbrev S1536x2048 : Shape := ⟨2, ![1536, 2048]⟩
abbrev S_ : Shape := ⟨0, ![]⟩
abbrev S1536 : Shape := ⟨1, ![1536]⟩
abbrev S1536x1 : Shape := ⟨2, ![1536, 1]⟩

abbrev nBuf : Space → Nat
  | .hbm => 27
  | .vmem => 0
  | .smem => 0
  | _ => 0

abbrev bufTy : (tb : Table) → Fin (tcTables nBuf tb) → BufTy
  | .hbm, ⟨0, _⟩ => ⟨S1536x2048, .f32⟩
  | .hbm, ⟨1, _⟩ => ⟨S1536x2048, .f32⟩
  | .hbm, ⟨2, _⟩ => ⟨S_, .f32⟩
  | .hbm, ⟨3, _⟩ => ⟨S1536, .f32⟩
  | .hbm, ⟨4, _⟩ => ⟨S_, .f32⟩
  | .hbm, ⟨5, _⟩ => ⟨S1536, .f32⟩
  | .hbm, ⟨6, _⟩ => ⟨S1536, .i1⟩
  | .hbm, ⟨7, _⟩ => ⟨S_, .f32⟩
  | .hbm, ⟨8, _⟩ => ⟨S1536, .f32⟩
  | .hbm, ⟨9, _⟩ => ⟨S1536, .f32⟩
  | .hbm, ⟨10, _⟩ => ⟨S_, .f32⟩
  | .hbm, ⟨11, _⟩ => ⟨S_, .f32⟩
  | .hbm, ⟨12, _⟩ => ⟨S1536, .f32⟩
  | .hbm, ⟨13, _⟩ => ⟨S1536, .f32⟩
  | .hbm, ⟨14, _⟩ => ⟨S1536x1, .f32⟩
  | .hbm, ⟨15, _⟩ => ⟨S1536x2048, .f32⟩
  | .hbm, ⟨16, _⟩ => ⟨S1536x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1536x2048, .f32⟩
  | .hbm, ⟨21, _⟩ => ⟨S1536x2048, .f32⟩
  | .hbm, ⟨22, _⟩ => ⟨S_, .f32⟩
  | .hbm, ⟨23, _⟩ => ⟨S1536x2048, .f32⟩
  | .hbm, ⟨24, _⟩ => ⟨S1536x2048, .f32⟩
  | .hbm, ⟨25, _⟩ => ⟨S1536x2048, .fp8e4m3⟩
  | .hbm, ⟨26, _⟩ => ⟨S1536x1, .f32⟩
  | _, _ => ⟨S1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== OProj.lean ====
abbrev S1536x2048 : Shape := ⟨2, ![1536, 2048]⟩
abbrev S1536x1 : Shape := ⟨2, ![1536, 1]⟩
abbrev S256x8192 : Shape := ⟨2, ![256, 8192]⟩
abbrev S16x8192 : Shape := ⟨2, ![16, 8192]⟩
abbrev S8192 : Shape := ⟨1, ![8192]⟩
abbrev S1536x8192 : Shape := ⟨2, ![1536, 8192]⟩
abbrev S1x8192 : Shape := ⟨2, ![1, 8192]⟩
abbrev S512x2048 : Shape := ⟨2, ![512, 2048]⟩
abbrev S512x1 : Shape := ⟨2, ![512, 1]⟩
abbrev S256x512 : Shape := ⟨2, ![256, 512]⟩
abbrev S16x512 : Shape := ⟨2, ![16, 512]⟩
abbrev S1x512 : Shape := ⟨2, ![1, 512]⟩
abbrev S512x512 : Shape := ⟨2, ![512, 512]⟩
abbrev S2048x512 : Shape := ⟨2, ![2048, 512]⟩
abbrev S16x8x512 : Shape := ⟨3, ![16, 8, 512]⟩
abbrev S16x1x512 : Shape := ⟨3, ![16, 1, 512]⟩
abbrev S128x512 : Shape := ⟨2, ![128, 512]⟩

abbrev nBuf : Space → Nat
  | .hbm => 8
  | .vmem => 15
  | .smem => 0
  | _ => 0

abbrev bufTy : (tb : Table) → Fin (tcTables nBuf tb) → BufTy
  | .hbm, ⟨0, _⟩ => ⟨S1536x2048, .fp8e4m3⟩
  | .hbm, ⟨1, _⟩ => ⟨S1536x1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S1536x8192, .bf16⟩
  | .hbm, ⟨6, _⟩ => ⟨S1x8192, .f32⟩
  | .hbm, ⟨7, _⟩ => ⟨S1536x8192, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S512x1, .f32⟩
  | .local _ .vmem, ⟨3, _⟩ => ⟨S512x1, .f32⟩
  | .local _ .vmem, ⟨4, _⟩ => ⟨S256x512, .i32⟩
  | .local _ .vmem, ⟨5, _⟩ => ⟨S256x512, .i32⟩
  | .local _ .vmem, ⟨6, _⟩ => ⟨S16x512, .fp8e4m3⟩
  | .local _ .vmem, ⟨7, _⟩ => ⟨S16x512, .fp8e4m3⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S2048x512, .bf16⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OProjRefIdeal.lean ====
abbrev S1536x2048 : Shape := ⟨2, ![1536, 2048]⟩
abbrev S1536x1 : Shape := ⟨2, ![1536, 1]⟩
abbrev S256x8192 : Shape := ⟨2, ![256, 8192]⟩
abbrev S16x8192 : Shape := ⟨2, ![16, 8192]⟩
abbrev S8192 : Shape := ⟨1, ![8192]⟩
abbrev S1536x8192 : Shape := ⟨2, ![1536, 8192]⟩
abbrev S1x8192 : Shape := ⟨2, ![1, 8192]⟩
abbrev S1536 : Shape := ⟨1, ![1536]⟩
abbrev S1x256x8192 : Shape := ⟨3, ![1, 256, 8192]⟩
abbrev S8x256x8192 : Shape := ⟨3, ![8, 256, 8192]⟩
abbrev S16x1x8192 : Shape := ⟨3, ![16, 1, 8192]⟩
abbrev S16x16x8192 : Shape := ⟨3, ![16, 16, 8192]⟩
abbrev S1536x256x8 : Shape := ⟨3, ![1536, 256, 8]⟩

abbrev nBuf : Space → Nat
  | .hbm => 8
  | .vmem => 7
  | .smem => 0
  | _ => 0

abbrev bufTy : (tb : Table) → Fin (tcTables nBuf tb) → BufTy
  | .hbm, ⟨0, _⟩ => ⟨S1536x2048, .fp8e4m3⟩
  | .hbm, ⟨1, _⟩ => ⟨S1536x1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S1536x8192, .bf16⟩
  | .hbm, ⟨6, _⟩ => ⟨S1x8192, .f32⟩
  | .hbm, ⟨7, _⟩ => ⟨S1536x8192, .f32⟩
  | .local _ .vmem, ⟨0, _⟩ => ⟨S1536x2048, .fp8e4m3⟩
  | .local _ .vmem, ⟨1, _⟩ => ⟨S1536x1, .f32⟩
  | .local _ .vmem, ⟨2, _⟩ => ⟨S256x8192, .i32⟩
  | .local _ .vmem, ⟨3, _⟩ => ⟨S16x8192, .fp8e4m3⟩
  | .local _ .vmem, ⟨4, _⟩ => ⟨S1x8192, .f32⟩
  | .local _ .vmem, ⟨5, _⟩ => ⟨S1536x8192, .bf16⟩
  | .local _ .vmem, ⟨6, _⟩ => ⟨S1536x8192, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== NormQuantH.lean ====
abbrev S1536x8192 : Shape := ⟨2, ![1536, 8192]⟩
abbrev S8192 : Shape := ⟨1, ![8192]⟩
abbrev S1x8192 : Shape := ⟨2, ![1, 8192]⟩
abbrev S1536x1 : Shape := ⟨2, ![1536, 1]⟩
abbrev S128x8192 : Shape := ⟨2, ![128, 8192]⟩
abbrev S128x1 : Shape := ⟨2, ![128, 1]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S1536x8192, .f32⟩
  | .hbm, ⟨1, _⟩ => ⟨S8192, .f32⟩
  | .hbm, ⟨2, _⟩ => ⟨S1x8192, .f32⟩
  | .hbm, ⟨3, _⟩ => ⟨S1536x8192, .fp8e4m3⟩
  | .hbm, ⟨4, _⟩ => ⟨S1536x1, .f32⟩
  | .local _ .vmem, ⟨0, _⟩ => ⟨S128x8192, .f32⟩
  | .local _ .vmem, ⟨1, _⟩ => ⟨S128x8192, .f32⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x1, .f32⟩
  | .local _ .vmem, ⟨6, _⟩ => ⟨S128x1, .f32⟩
  | _, _ => ⟨S1536x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormQuantHRefIdeal.lean ====
abbrev S1536x8192 : Shape := ⟨2, ![1536, 8192]⟩
abbrev S8192 : Shape := ⟨1, ![8192]⟩
abbrev S_ : Shape := ⟨0, ![]⟩
abbrev S1536 : Shape := ⟨1, ![1536]⟩
abbrev S1536x1 : Shape := ⟨2, ![1536, 1]⟩
abbrev S1x8192 : Shape := ⟨2, ![1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S1536x8192, .f32⟩
  | .hbm, ⟨1, _⟩ => ⟨S8192, .f32⟩
  | .hbm, ⟨2, _⟩ => ⟨S1536x8192, .f32⟩
  | .hbm, ⟨3, _⟩ => ⟨S_, .f32⟩
  | .hbm, ⟨4, _⟩ => ⟨S1536, .f32⟩
  | .hbm, ⟨5, _⟩ => ⟨S1536x1, .f32⟩
  | .hbm, ⟨6, _⟩ => ⟨S_, .f32⟩
  | .hbm, ⟨7, _⟩ => ⟨S1536x1, .f32⟩
  | .hbm, ⟨8, _⟩ => ⟨S1536x1, .f32⟩
  | .hbm, ⟨9, _⟩ => ⟨S_, .f32⟩
  | .hbm, ⟨10, _⟩ => ⟨S1536x1, .f32⟩
  | .hbm, ⟨11, _⟩ => ⟨S1536x1, .f32⟩
  | .hbm, ⟨12, _⟩ => ⟨S1536x1, .f32⟩
  | .hbm, ⟨13, _⟩ => ⟨S1536x8192, .f32⟩
  | .hbm, ⟨14, _⟩ => ⟨S1536x8192, .f32⟩
  | .hbm, ⟨15, _⟩ => ⟨S1x8192, .f32⟩
  | .hbm, ⟨16, _⟩ => ⟨S1536x8192, .f32⟩
  | .hbm, ⟨17, _⟩ => ⟨S1536x8192, .f32⟩
  | .hbm, ⟨18, _⟩ => ⟨S1536x8192, .f32⟩
  | .hbm, ⟨19, _⟩ => ⟨S_, .f32⟩
  | .hbm, ⟨20, _⟩ => ⟨S1536, .f32⟩
  | .hbm, ⟨21, _⟩ => ⟨S_, .f32⟩
  | .hbm, ⟨22, _⟩ => ⟨S1536, .f32⟩
  | .hbm, ⟨23, _⟩ => ⟨S1536, .i1⟩
  | .hbm, ⟨24, _⟩ => ⟨S_, .f32⟩
  | .hbm, ⟨25, _⟩ => ⟨S1536, .f32⟩
  | .hbm, ⟨26, _⟩ => ⟨S1536, .f32⟩
  | .hbm, ⟨27, _⟩ => ⟨S_, .f32⟩
  | .hbm, ⟨28, _⟩ => ⟨S_, .f32⟩
  | .hbm, ⟨29, _⟩ => ⟨S1536, .f32⟩
  | .hbm, ⟨30, _⟩ => ⟨S1536, .f32⟩
  | .hbm, ⟨31, _⟩ => ⟨S1536x1, .f32⟩
  | .hbm, ⟨32, _⟩ => ⟨S1536x8192, .f32⟩
  | .hbm, ⟨33, _⟩ => ⟨S1536x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1536x8192, .f32⟩
  | .hbm, ⟨38, _⟩ => ⟨S1536x8192, .f32⟩
  | .hbm, ⟨39, _⟩ => ⟨S_, .f32⟩
  | .hbm, ⟨40, _⟩ => ⟨S1536x8192, .f32⟩
  | .hbm, ⟨41, _⟩ => ⟨S1536x8192, .f32⟩
  | .hbm, ⟨42, _⟩ => ⟨S1536x8192, .fp8e4m3⟩
  | .hbm, ⟨43, _⟩ => ⟨S1536x1, .f32⟩
  | _, _ => ⟨S1536x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== GateUp.lean ====
abbrev S1536x8192 : Shape := ⟨2, ![1536, 8192]⟩
abbrev S1536x1 : Shape := ⟨2, ![1536, 1]⟩
abbrev S1024x14336 : Shape := ⟨2, ![1024, 14336]⟩
abbrev S64x14336 : Shape := ⟨2, ![64, 14336]⟩
abbrev S14336 : Shape := ⟨1, ![14336]⟩
abbrev S1x14336 : Shape := ⟨2, ![1, 14336]⟩
abbrev S1536x7168 : Shape := ⟨2, ![1536, 7168]⟩
abbrev S512x8192 : Shape := ⟨2, ![512, 8192]⟩
abbrev S512x1 : Shape := ⟨2, ![512, 1]⟩
abbrev S1024x256 : Shape := ⟨2, ![1024, 256]⟩
abbrev S64x256 : Shape := ⟨2, ![64, 256]⟩
abbrev S1x256 : Shape := ⟨2, ![1, 256]⟩
abbrev S512x256 : Shape := ⟨2, ![512, 256]⟩
abbrev S8192x512 : Shape := ⟨2, ![8192, 512]⟩
abbrev S16x256 : Shape := ⟨2, ![16, 256]⟩
abbrev S16x8x256 : Shape := ⟨3, ![16, 8, 256]⟩
abbrev S16x1x256 : Shape := ⟨3, ![16, 1, 256]⟩
abbrev S128x256 : Shape := ⟨2, ![128, 256]⟩
abbrev S512x512 : Shape := ⟨2, ![512, 512]⟩

abbrev nBuf : Space → Nat
  | .hbm => 7
  | .vmem => 19
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S1x14336, .f32⟩
  | .hbm, ⟨6, _⟩ => ⟨S1536x7168, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x1, .f32⟩
  | .local _ .vmem, ⟨3, _⟩ => ⟨S512x1, .f32⟩
  | .local _ .vmem, ⟨4, _⟩ => ⟨S1024x256, .i32⟩
  | .local _ .vmem, ⟨5, _⟩ => ⟨S1024x256, .i32⟩
  | .local _ .vmem, ⟨6, _⟩ => ⟨S1024x256, .i32⟩
  | .local _ .vmem, ⟨7, _⟩ => ⟨S1024x256, .i32⟩
  | .local _ .vmem, ⟨8, _⟩ => ⟨S64x256, .fp8e4m3⟩
  | .local _ .vmem, ⟨9, _⟩ => ⟨S64x256, .fp8e4m3⟩
  | .local _ .vmem, ⟨10, _⟩ => ⟨S64x256, .fp8e4m3⟩
  | .local _ .vmem, ⟨11, _⟩ => ⟨S64x256, .fp8e4m3⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .f32⟩
  | .local _ .vmem, ⟨17, _⟩ => ⟨S512x256, .f32⟩
  | .local _ .vmem, ⟨18, _⟩ => ⟨S8192x512, .bf16⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![28, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GateUpRefIdeal.lean ====
abbrev S1536x8192 : Shape := ⟨2, ![1536, 8192]⟩
abbrev S1536x1 : Shape := ⟨2, ![1536, 1]⟩
abbrev S1024x14336 : Shape := ⟨2, ![1024, 14336]⟩
abbrev S64x14336 : Shape := ⟨2, ![64, 14336]⟩
abbrev S14336 : Shape := ⟨1, ![14336]⟩
abbrev S1x14336 : Shape := ⟨2, ![1, 14336]⟩
abbrev S1536x7168 : Shape := ⟨2, ![1536, 7168]⟩
abbrev S1536 : Shape := ⟨1, ![1536]⟩
abbrev S1x1024x14336 : Shape := ⟨3, ![1, 1024, 14336]⟩
abbrev S8x1024x14336 : Shape := ⟨3, ![8, 1024, 14336]⟩
abbrev S64x1x14336 : Shape := ⟨3, ![64, 1, 14336]⟩
abbrev S64x16x14336 : Shape := ⟨3, ![64, 16, 14336]⟩
abbrev S1536x1024x8 : Shape := ⟨3, ![1536, 1024, 8]⟩
abbrev S1536x14336 : Shape := ⟨2, ![1536, 14336]⟩

abbrev nBuf : Space → Nat
  | .hbm => 7
  | .vmem => 6
  | .smem => 0
  | _ => 0

abbrev bufTy : (tb : Table) → Fin (tcTables nBuf tb) → BufTy
  | .hbm, ⟨0, _⟩ => ⟨S1536x8192, .fp8e4m3⟩
  | .hbm, ⟨1, _⟩ => ⟨S1536x1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S1x14336, .f32⟩
  | .hbm, ⟨6, _⟩ => ⟨S1536x7168, .f32⟩
  | .local _ .vmem, ⟨0, _⟩ => ⟨S1536x8192, .fp8e4m3⟩
  | .local _ .vmem, ⟨1, _⟩ => ⟨S1536x1, .f32⟩
  | .local _ .vmem, ⟨2, _⟩ => ⟨S1024x14336, .i32⟩
  | .local _ .vmem, ⟨3, _⟩ => ⟨S64x14336, .fp8e4m3⟩
  | .local _ .vmem, ⟨4, _⟩ => ⟨S1x14336, .f32⟩
  | .local _ .vmem, ⟨5, _⟩ => ⟨S1536x7168, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x14336 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantAct.lean ====
abbrev S1536x7168 : Shape := ⟨2, ![1536, 7168]⟩
abbrev S1536x1 : Shape := ⟨2, ![1536, 1]⟩
abbrev S128x7168 : Shape := ⟨2, ![128, 7168]⟩
abbrev S128x1 : Shape := ⟨2, ![128, 1]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S1536x7168, .f32⟩
  | .hbm, ⟨1, _⟩ => ⟨S1536x7168, .fp8e4m3⟩
  | .hbm, ⟨2, _⟩ => ⟨S1536x1, .f32⟩
  | .local _ .vmem, ⟨0, _⟩ => ⟨S128x7168, .f32⟩
  | .local _ .vmem, ⟨1, _⟩ => ⟨S128x7168, .f32⟩
  | .local _ .vmem, ⟨2, _⟩ => ⟨S128x7168, .fp8e4m3⟩
  | .local _ .vmem, ⟨3, _⟩ => ⟨S128x7168, .fp8e4m3⟩
  | .local _ .vmem, ⟨4, _⟩ => ⟨S128x1, .f32⟩
  | .local _ .vmem, ⟨5, _⟩ => ⟨S128x1, .f32⟩
  | _, _ => ⟨S1536x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantActRefIdeal.lean ====
abbrev S1536x7168 : Shape := ⟨2, ![1536, 7168]⟩
abbrev S_ : Shape := ⟨0, ![]⟩
abbrev S1536 : Shape := ⟨1, ![1536]⟩
abbrev S1536x1 : Shape := ⟨2, ![1536, 1]⟩

abbrev nBuf : Space → Nat
  | .hbm => 27
  | .vmem => 0
  | .smem => 0
  | _ => 0

abbrev bufTy : (tb : Table) → Fin (tcTables nBuf tb) → BufTy
  | .hbm, ⟨0, _⟩ => ⟨S1536x7168, .f32⟩
  | .hbm, ⟨1, _⟩ => ⟨S1536x7168, .f32⟩
  | .hbm, ⟨2, _⟩ => ⟨S_, .f32⟩
  | .hbm, ⟨3, _⟩ => ⟨S1536, .f32⟩
  | .hbm, ⟨4, _⟩ => ⟨S_, .f32⟩
  | .hbm, ⟨5, _⟩ => ⟨S1536, .f32⟩
  | .hbm, ⟨6, _⟩ => ⟨S1536, .i1⟩
  | .hbm, ⟨7, _⟩ => ⟨S_, .f32⟩
  | .hbm, ⟨8, _⟩ => ⟨S1536, .f32⟩
  | .hbm, ⟨9, _⟩ => ⟨S1536, .f32⟩
  | .hbm, ⟨10, _⟩ => ⟨S_, .f32⟩
  | .hbm, ⟨11, _⟩ => ⟨S_, .f32⟩
  | .hbm, ⟨12, _⟩ => ⟨S1536, .f32⟩
  | .hbm, ⟨13, _⟩ => ⟨S1536, .f32⟩
  | .hbm, ⟨14, _⟩ => ⟨S1536x1, .f32⟩
  | .hbm, ⟨15, _⟩ => ⟨S1536x7168, .f32⟩
  | .hbm, ⟨16, _⟩ => ⟨S1536x7168, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1536x7168, .f32⟩
  | .hbm, ⟨21, _⟩ => ⟨S1536x7168, .f32⟩
  | .hbm, ⟨22, _⟩ => ⟨S_, .f32⟩
  | .hbm, ⟨23, _⟩ => ⟨S1536x7168, .f32⟩
  | .hbm, ⟨24, _⟩ => ⟨S1536x7168, .f32⟩
  | .hbm, ⟨25, _⟩ => ⟨S1536x7168, .fp8e4m3⟩
  | .hbm, ⟨26, _⟩ => ⟨S1536x1, .f32⟩
  | _, _ => ⟨S1536x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Down.lean ====
abbrev S1536x7168 : Shape := ⟨2, ![1536, 7168]⟩
abbrev S1536x1 : Shape := ⟨2, ![1536, 1]⟩
abbrev S896x8192 : Shape := ⟨2, ![896, 8192]⟩
abbrev S56x8192 : Shape := ⟨2, ![56, 8192]⟩
abbrev S8192 : Shape := ⟨1, ![8192]⟩
abbrev S1536x8192 : Shape := ⟨2, ![1536, 8192]⟩
abbrev S1x8192 : Shape := ⟨2, ![1, 8192]⟩
abbrev S512x7168 : Shape := ⟨2, ![512, 7168]⟩
abbrev S512x1 : Shape := ⟨2, ![512, 1]⟩
abbrev S896x512 : Shape := ⟨2, ![896, 512]⟩
abbrev S56x512 : Shape := ⟨2, ![56, 512]⟩
abbrev S1x512 : Shape := ⟨2, ![1, 512]⟩
abbrev S512x512 : Shape := ⟨2, ![512, 512]⟩
abbrev S7168x512 : Shape := ⟨2, ![7168, 512]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩

abbrev nBuf : Space → Nat
  | .hbm => 8
  | .vmem => 15
  | .smem => 0
  | _ => 0

abbrev bufTy : (tb : Table) → Fin (tcTables nBuf tb) → BufTy
  | .hbm, ⟨0, _⟩ => ⟨S1536x7168, .fp8e4m3⟩
  | .hbm, ⟨1, _⟩ => ⟨S1536x1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S1536x8192, .f32⟩
  | .hbm, ⟨6, _⟩ => ⟨S1x8192, .f32⟩
  | .hbm, ⟨7, _⟩ => ⟨S1536x8192, .bf16⟩
  | .local _ .vmem, ⟨0, _⟩ => ⟨S512x7168, .fp8e4m3⟩
  | .local _ .vmem, ⟨1, _⟩ => ⟨S512x7168, .fp8e4m3⟩
  | .local _ .vmem, ⟨2, _⟩ => ⟨S512x1, .f32⟩
  | .local _ .vmem, ⟨3, _⟩ => ⟨S512x1, .f32⟩
  | .local _ .vmem, ⟨4, _⟩ => ⟨S896x512, .i32⟩
  | .local _ .vmem, ⟨5, _⟩ => ⟨S896x512, .i32⟩
  | .local _ .vmem, ⟨6, _⟩ => ⟨S56x512, .fp8e4m3⟩
  | .local _ .vmem, ⟨7, _⟩ => ⟨S56x512, .fp8e4m3⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S7168x512, .bf16⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S56x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S1536x7168 : Shape := ⟨2, ![1536, 7168]⟩
abbrev S1536x1 : Shape := ⟨2, ![1536, 1]⟩
abbrev S896x8192 : Shape := ⟨2, ![896, 8192]⟩
abbrev S56x8192 : Shape := ⟨2, ![56, 8192]⟩
abbrev S8192 : Shape := ⟨1, ![8192]⟩
abbrev S1536x8192 : Shape := ⟨2, ![1536, 8192]⟩
abbrev S1x8192 : Shape := ⟨2, ![1, 8192]⟩
abbrev S1536 : Shape := ⟨1, ![1536]⟩
abbrev S1x896x8192 : Shape := ⟨3, ![1, 896, 8192]⟩
abbrev S8x896x8192 : Shape := ⟨3, ![8, 896, 8192]⟩
abbrev S56x1x8192 : Shape := ⟨3, ![56, 1, 8192]⟩
abbrev S56x16x8192 : Shape := ⟨3, ![56, 16, 8192]⟩
abbrev S1536x896x8 : Shape := ⟨3, ![1536, 896, 8]⟩

abbrev nBuf : Space → Nat
  | .hbm => 8
  | .vmem => 7
  | .smem => 0
  | _ => 0

abbrev bufTy : (tb : Table) → Fin (tcTables nBuf tb) → BufTy
  | .hbm, ⟨0, _⟩ => ⟨S1536x7168, .fp8e4m3⟩
  | .hbm, ⟨1, _⟩ => ⟨S1536x1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S1536x8192, .f32⟩
  | .hbm, ⟨6, _⟩ => ⟨S1x8192, .f32⟩
  | .hbm, ⟨7, _⟩ => ⟨S1536x8192, .bf16⟩
  | .local _ .vmem, ⟨0, _⟩ => ⟨S1536x7168, .fp8e4m3⟩
  | .local _ .vmem, ⟨1, _⟩ => ⟨S1536x1, .f32⟩
  | .local _ .vmem, ⟨2, _⟩ => ⟨S896x8192, .i32⟩
  | .local _ .vmem, ⟨3, _⟩ => ⟨S56x8192, .fp8e4m3⟩
  | .local _ .vmem, ⟨4, _⟩ => ⟨S1x8192, .f32⟩
  | .local _ .vmem, ⟨5, _⟩ => ⟨S1536x8192, .f32⟩
  | .local _ .vmem, ⟨6, _⟩ => ⟨S1536x8192, .bf16⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
module

public import proofs.«01_k».proof.Defs
public import Idealize.ShloMosaic.Lib.Pipeline.ValueKit

@[expose] public section

/-! The row quantiser and the row norm in plain terms, over a row given as a function of its column. -/

noncomputable section

namespace Cert.Quant
open Idealize.ShloMosaic

variable {K : ℕ}

/-- The largest magnitude of a row. -/
def amax (v : Fin K → EReal) : EReal :=
  Finset.univ.fold max (Ideal.ofBits .f32 0xFF800000#32) fun k => FloatOps.absf (F := Ideal) (φ := .f32) (v k)

/-- The scale of a row: its largest magnitude over 448, or one for a row of zeros. -/
def scale (v : Fin K → EReal) : EReal := if 0 < amax v then Ideal.div (amax v) (Ideal.ofBits .f32 0x43E00000#32) else 1

/-- The code at column `k`: the element over the row's scale, held within ±448. -/
def code (v : Fin K → EReal) (k : Fin K) : EReal :=
  min (Ideal.ofBits .f32 0x43E00000#32) (max (Ideal.ofBits .f32 0xC3E00000#32) (Ideal.div (v k) (scale v)))

/-- The root mean square norm of a row of 8192 elements, times the gain. -/
def norm (x g : Fin 8192 → EReal) (k : Fin 8192) : EReal :=
  Ideal.div (x k) (Ideal.sqrt (Ideal.div (∑ j, x j * x j) (Ideal.ofBits .f32 0x46000000#32) + Ideal.ofBits .f32 0x3727C5AC#32)) * g k

end Cert.Quant
-- ==== Proof.NormQuantXKernel.lean ====
module

public import proofs.«01_k».proof.Defs
public import proofs.«01_k».proof.Proof.Gen.NormQuantXIdeal.Value
public import proofs.«01_k».proof.Proof.Quant

@[expose] public section

set_option maxRecDepth 16384
noncomputable section

namespace Cert.NormQuantXIdeal.Hand
open Idealize.ShloMosaic Idealize.SL.Sem Cert.NormQuantXIdeal Cert.Quant
open Cert.NormQuantXIdeal.Gen Idealize.ShloMosaic.TcCoe
variable (m : (ℓ : Loc nD τ sig) → Buf (Elt Ideal) ℓ)

/-- Grid point `t` takes row block `t` of every array, and the gain whole. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The normed rows, given the rows' sums of squares `v`. -/
theorem norm_rest (x : FVec Ideal S128x8192 .bf16) (v : FVec Ideal S128 .f32) (g : FVec Ideal S1x8192 .f32) (r : Fin 128) (k : Fin 8192) :
    mulf (divf (extf .f32 x bitsLt_bf16_f32) (broadcastTo S128x8192 (sqrt (addf
        (divf (shapeCast S128x1 v shapeCasts_S128_S128x1) (broadcast S128x1 (Scalar.ofBits .f32 0x46000000#32)))
        (broadcast S128x1 (Scalar.ofBits .f32 0x3727C5AC#32)))) broadcasts_S128x1_S128x8192))
      (broadcastTo S128x8192 (shapeCast S1x8192 g shapeCasts_S1x8192_S1x8192) broadcasts_S1x8192_S128x8192) (ix2 r k)
    = Ideal.div (x (ix2 r k)) (Ideal.sqrt (Ideal.div (v (ix1 r)) (Ideal.ofBits .f32 0x46000000#32) + Ideal.ofBits .f32 0x3727C5AC#32))
      * g (ix2 0 k) := by
  pointwise []

/-- A row's sum of squares. -/
theorem squares_at (x : FVec Ideal S128x8192 .bf16) (r : Fin 128) :
    (multiReduction .add [1] S128 (mulf (extf .f32 x bitsLt_bf16_f32) (extf .f32 x bitsLt_bf16_f32)) 0x00000000#32
      reduces_S128x8192_S128 (.inl rfl) rfl : FVec Ideal S128 .f32) (ix1 r) = ∑ k, x (ix2 r k) * x (ix2 r k) := by
  pointwise []

/-- The normed rows of a block. -/
theorem norm_at (x : Vec Ideal S128x8192 .bf16) (g : Vec Ideal S1x8192 .f32) (r : Fin 128) (k : Fin 8192) :
    k0_pay1 x g (ix2 r k) = norm (fun k => x (ix2 r k)) (fun k => g (ix2 0 k)) k := by
  refine (norm_rest x _ g r k).trans ?_
  rw [squares_at]
  rfl

/-- The kernel's maximum over a row's magnitudes. -/
theorem amax_at (x : Vec Ideal S128x8192 .f32) (r : Fin 128) :
    (multiReduction .maximumf [1] S128 (absf x) 0xFF800000#32 reduces_S128x8192_S128 (.inl rfl) rfl : FVec Ideal S128 .f32) (ix1 r)
      = amax fun k => x (ix2 r k) := by
  pointwise [amax]

/-- The scales, given the rows' largest magnitudes `v`. -/
theorem scale_rest (v : FVec Ideal S128 .f32) (r : Fin 128) (z : Fin 1) :
    select (cmpf .ogt (shapeCast S128x1 v shapeCasts_S128_S128x1) (broadcast S128x1 (Scalar.ofBits .f32 0x00000000#32)))
      (divf (shapeCast S128x1 v shapeCasts_S128_S128x1) (broadcast S128x1 (Scalar.ofBits .f32 0x43E00000#32)))
      (broadcast S128x1 (Scalar.ofBits .f32 0x3F800000#32)) (ix2 r z)
    = if 0 < v (ix1 r) then Ideal.div (v (ix1 r)) (Ideal.ofBits .f32 0x43E00000#32) else (1 : EReal) := by
  pointwise []

/-- The scales a block of rows gets. -/
theorem scale_at (x : Vec Ideal S128x8192 .bf16) (g : Vec Ideal S1x8192 .f32) (r : Fin 128) (z : Fin 1) :
    k0_pay2 x g (ix2 r z) = scale (norm (fun k => x (ix2 r k)) fun k => g (ix2 0 k)) := by
  rw [← funext (norm_at x g r)]
  unfold scale
  rw [← amax_at (k0_pay1 x g) r]
  exact scale_rest _ r z

/-- The codes, given the rows' scales `s`. -/
theorem code_rest (x : FVec Ideal S128x8192 .f32) (s : FVec Ideal S128x1 .f32) (r : Fin 128) (k : Fin 8192) :
    truncf .fp8e4m3 (minimumf (broadcast S128x8192 (Scalar.ofBits .f32 0x43E00000#32)) (maximumf
      (broadcast S128x8192 (Scalar.ofBits .f32 0xC3E00000#32)) (divf x (broadcastTo S128x8192 s broadcasts_S128x1_S128x8192))))
      bitsLt_fp8e4m3_f32 (ix2 r k)
    = min (Ideal.ofBits .f32 0x43E00000#32) (max (Ideal.ofBits .f32 0xC3E00000#32) (Ideal.div (x (ix2 r k)) (s (ix2 r 0)))) := by
  pointwise []

/-- The codes a block of rows gets. -/
theorem code_at (x : Vec Ideal S128x8192 .bf16) (g : Vec Ideal S1x8192 .f32) (r : Fin 128) (k : Fin 8192) :
    k0_pay3 x g (ix2 r k) = code (norm (fun k => x (ix2 r k)) fun k => g (ix2 0 k)) k := by
  unfold code
  rw [← scale_at x g r 0, ← norm_at x g r k]
  exact code_rest (k0_pay1 x g) _ r k

/-- Row `r` of the layer's normed input. -/
abbrev row (c : Dev nD) (r : Fin 1536) : Fin 8192 → EReal :=
  norm (fun k => m ((c : Thread nD τ).loc main_arg0) (ix2 r k)) fun k => m ((c : Thread nD τ).loc main_arg1) (ix1 k)

/-- The kernel's codes after the run. -/
theorem codes (c : Dev nD) : (dats m 0 c).arrAt 2 (cfgs 0).N = fun i => code (row m c (i 0)) (i 1) := by
  refine (dats m 0 c).arrAt_eq_of_covers 2 _ (by decide +kernel) fun t _ y => ?_
  blk_simp; rw [after0_2]; frame_out
  idx_vars y
  rw [code_at]
  refine congrArg₂ code (congrArg₂ norm (funext fun k => ?_) (funext fun k => ?_)) (Fin.ext ?_)
  · blk_ext [iblk, V, idx t]
  · blk_point [iblk, V, idx t]
  · blk_simp [idx t]

/-- The kernel's scales after the run. -/
theorem scales (c : Dev nD) : (dats m 0 c).arrAt 3 (cfgs 0).N = fun i => scale (row m c (i 0)) := by
  refine (dats m 0 c).arrAt_eq_of_covers 3 _ (by decide +kernel) fun t _ y => ?_
  blk_simp; rw [after0_3]; frame_out
  idx_vars y
  rw [scale_at]
  refine congrArg scale (congrArg₂ norm (funext fun k => ?_) (funext fun k => ?_))
  · blk_ext [iblk, V, idx t]
  · blk_point [iblk, V, idx t]

end Cert.NormQuantXIdeal.Hand
-- ==== Proof.NormQuantXReference.lean ====
module

public import proofs.«01_k».proof.Defs
public import proofs.«01_k».proof.Proof.Gen.NormQuantXRefIdeal
public import proofs.«01_k».proof.Proof.Quant

@[expose] public section

set_option maxRecDepth 16384
noncomputable section

namespace Cert.NormQuantXRefIdeal.Hand
open Idealize.ShloMosaic Idealize.SL.Sem Cert.NormQuantXRefIdeal Cert.Quant
open Cert.NormQuantXRefIdeal.Gen

/-- The rows' sums of squares, as the plain definition takes them. -/
abbrev squares (x : FVec Ideal S1536x8192 .bf16) : FVec Ideal S1536 .f32 :=
  Host.reduceAdd (mulf (extf .f32 x Gen.bitsLt_bf16_f32) (extf .f32 x Gen.bitsLt_bf16_f32)) (constant S_ .f32 0x00000000#32)
    Gen.reducesTo_S1536x8192_S1536_d1 Gen.h_S_

/-- The normed rows, given the sums of squares `v`. -/
abbrev normOf (x : FVec Ideal S1536x8192 .bf16) (v : FVec Ideal S1536 .f32) (g : FVec Ideal S8192 .f32) : FVec Ideal S1536x8192 .f32 :=
  mulf (Host.divf (extf .f32 x Gen.bitsLt_bf16_f32) (broadcastInDim S1536x8192 ![0, 1] Gen.bcast_S1536x1_S1536x8192_0_1
      (Host.sqrt (addf (Host.divf (broadcastInDim S1536x1 ![0] Gen.bcast_S1536_S1536x1_0 v)
          (broadcastInDim S1536x1 ![] Gen.bcast_S_S1536x1 (constant S_ .f32 0x46000000#32)))
        (broadcastInDim S1536x1 ![] Gen.bcast_S_S1536x1 (constant S_ .f32 0x3727C5AC#32))))))
    (broadcastInDim S1536x8192 ![0, 1] Gen.bcast_S1x8192_S1536x8192_0_1 (broadcastInDim S1x8192 ![1] Gen.bcast_S8192_S1x8192_1 g))

/-- A row's sum of squares. -/
theorem squares_at (x : FVec Ideal S1536x8192 .bf16) (r : Fin 1536) : squares x (ix1 r) = ∑ k, x (ix2 r k) * x (ix2 r k) := by
  pointwise []

/-- A normed element, given the sums of squares. -/
theorem norm_rest (x : FVec Ideal S1536x8192 .bf16) (v : FVec Ideal S1536 .f32) (g : FVec Ideal S8192 .f32) (r : Fin 1536) (k : Fin 8192) :
    normOf x v g (ix2 r k)
    = Ideal.div (x (ix2 r k)) (Ideal.sqrt (Ideal.div (v (ix1 r)) (Ideal.ofBits .f32 0x46000000#32) + Ideal.ofBits .f32 0x3727C5AC#32))
      * g (ix1 k) := by
  pointwise []

/-- The normed rows. -/
theorem norm_at (x : FVec Ideal S1536x8192 .bf16) (g : FVec Ideal S8192 .f32) (r : Fin 1536) :
    (fun k => normOf x (squares x) g (ix2 r k)) = norm (fun k => x (ix2 r k)) fun k => g (ix1 k) := by
  funext k
  refine (norm_rest x _ g r k).trans ?_
  rw [squares_at]
  rfl

/-- The rows' largest magnitudes, as the plain definition takes them. -/
abbrev largest (x : FVec Ideal S1536x8192 .f32) : FVec Ideal S1536 .f32 :=
  Host.reduce FloatOps.maximumf (Host.absf x) (constant S_ .f32 0xFF800000#32) Gen.reducesTo_S1536x8192_S1536_d1 Gen.h_S_

/-- The scales, given the rows' largest magnitudes `v`. -/
abbrev scalesOf (v : FVec Ideal S1536 .f32) : FVec Ideal S1536 .f32 :=
  select (cmpf .ogt v (broadcastInDim S1536 ![] Gen.bcast_S_S1536 (constant S_ .f32 0x00000000#32)))
    (Host.divf v (broadcastInDim S1536 ![] Gen.bcast_S_S1536 (constant S_ .f32 0x43E00000#32)))
    (broadcastInDim S1536 ![] Gen.bcast_S_S1536 (constant S_ .f32 0x3F800000#32))

/-- The codes, given the scales `s`. -/
abbrev codesOf (x : FVec Ideal S1536x8192 .f32) (s : FVec Ideal S1536 .f32) : FVec Ideal S1536x8192 .fp8e4m3 :=
  Host.convertf .fp8e4m3 (minimumf (broadcastInDim S1536x8192 ![] Gen.bcast_S_S1536x8192 (constant S_ .f32 0x43E00000#32))
    (maximumf (broadcastInDim S1536x8192 ![] Gen.bcast_S_S1536x8192 (constant S_ .f32 0xC3E00000#32))
      (Host.divf x (broadcastInDim S1536x8192 ![0, 1] Gen.bcast_S1536x1_S1536x8192_0_1
        (broadcastInDim S1536x1 ![0] Gen.bcast_S1536_S1536x1_0 s)))))

/-- A row's largest magnitude. -/
theorem largest_at (x : FVec Ideal S1536x8192 .f32) (r : Fin 1536) : largest x (ix1 r) = amax fun k => x (ix2 r k) := by
  pointwise [amax]

/-- A row's scale, given the largest magnitudes. -/
theorem scale_rest (v : FVec Ideal S1536 .f32) (r : Fin 1536) :
    scalesOf v (ix1 r) = if 0 < v (ix1 r) then Ideal.div (v (ix1 r)) (Ideal.ofBits .f32 0x43E00000#32) else (1 : EReal) := by
  pointwise []

/-- A row's scale. -/
theorem scale_at (x : FVec Ideal S1536x8192 .f32) (r : Fin 1536) :
    scalesOf (largest x) (ix1 r) = scale fun k => x (ix2 r k) := by
  unfold scale
  rw [← largest_at x r]
  exact scale_rest _ r

/-- A column of scales holds each row's scale. -/
theorem column_at (s : FVec Ideal S1536 .f32) (r : Fin 1536) (z : Fin 1) :
    shapeCast S1536x1 s Gen.shapeCasts_S1536_S1536x1 (ix2 r z) = s (ix1 r) := by
  pointwise []

/-- A code, given the scales. -/
theorem code_rest (x : FVec Ideal S1536x8192 .f32) (s : FVec Ideal S1536 .f32) (r : Fin 1536) (k : Fin 8192) :
    codesOf x s (ix2 r k)
    = min (Ideal.ofBits .f32 0x43E00000#32) (max (Ideal.ofBits .f32 0xC3E00000#32) (Ideal.div (x (ix2 r k)) (s (ix1 r)))) := by
  pointwise []

/-- The plain definition's codes. -/
theorem codes (x : FVec Ideal S1536x8192 .bf16) (g : FVec Ideal S8192 .f32) :
    codesOf (normOf x (squares x) g) (scalesOf (largest (normOf x (squares x) g)))
    = fun i => code (norm (fun k => x (ix2 (i 0) k)) fun k => g (ix1 k)) (i 1) := by
  funext i
  idx_vars i
  unfold code
  refine (code_rest (normOf x (squares x) g) _ _ _).trans ?_
  rw [scale_at, norm_at, ← norm_at x g i0]

/-- The plain definition's scales. -/
theorem scales (x : FVec Ideal S1536x8192 .bf16) (g : FVec Ideal S8192 .f32) :
    shapeCast S1536x1 (scalesOf (largest (normOf x (squares x) g))) Gen.shapeCasts_S1536_S1536x1
    = fun i => scale (norm (fun k => x (ix2 (i 0) k)) fun k => g (ix1 k)) := by
  funext i
  idx_vars i
  exact (column_at _ _ _).trans ((scale_at _ _).trans (congrArg scale (norm_at x g _)))

end Cert.NormQuantXRefIdeal.Hand
-- ==== Proof.NormQuantXClaims.lean ====
module

public import proofs.«01_k».proof.Defs
public import proofs.«01_k».proof.Proof.Gen.NormQuantX.Frame
public import proofs.«01_k».proof.Proof.Gen.NormQuantXIdeal.Frame
public import proofs.«01_k».proof.Proof.Gen.NormQuantXRefIdeal
public import proofs.«01_k».proof.Proof.NormQuantXKernel
public import proofs.«01_k».proof.Proof.NormQuantXReference

@[expose] public section

set_option maxRecDepth 16384
noncomputable section

namespace Cert.NormQuantXClaims
open Idealize.ShloMosaic Idealize.SL.Sem Cert.Quant

/-- The printed call runs, keeps its arguments and ends quiet. -/
theorem frame : @Cert.quiescent_NormQuantX Cert.NormQuantX.Gen.facts := fun m g _ => Cert.NormQuantX.Gen.frame m g

/-- So does its idealization. -/
theorem frame_ideal : @Cert.quiescent_NormQuantXIdeal Cert.NormQuantXIdeal.Gen.facts := fun m g _ => Cert.NormQuantXIdeal.Gen.frame m g

/-- So does the plain definition. -/
theorem frame_reference : @Cert.quiescent_NormQuantXRefIdeal Cert.NormQuantXRefIdeal.Gen.facts := by
  intro m g _
  hlo_run
  · exact fun _ => ⟨trivial, trivial⟩
  · exact sem_eq_zero_of_no_sems (by decide) r.2

/-- The idealized call's codes and scales are the plain definition's. -/
theorem value : @Cert.algebraic_NormQuantXIdeal_NormQuantXRefIdeal Cert.NormQuantXIdeal.Gen.facts Cert.NormQuantXRefIdeal.Gen.facts := by
  pair_intro
  · run_from Cert.NormQuantXIdeal.Gen.run_main m g
  · hlo_run
    all_goals simp -implicitDefEqProofs only [StableHlo.TRef.toBuf, StableHlo.TRef.ofBuf, cast_cast, cast_eq]
    · exact (Cert.NormQuantXRefIdeal.Hand.codes _ _).trans (Cert.NormQuantXIdeal.Hand.codes m c).symm
    · exact (Cert.NormQuantXRefIdeal.Hand.scales _ _).trans (Cert.NormQuantXIdeal.Hand.scales m c).symm
end Cert.NormQuantXClaims
-- ==== Proof.Words.lean ====
module

public import Idealize.ShloMosaic.Lib.Pipeline.ValueKit
public import Idealize.ShloMosaic.Lib.Affine

@[expose] public section

set_option maxRecDepth 16384
noncomputable section

/-! The 4-bit weights: eight signed fields to a 32-bit word, a scale to 128 input features. Nothing here names a program. -/

namespace Cert.Words

open Idealize.ShloMosaic

/-- Field `j` of a word: four bits, read as a signed number. -/
def nib (w : BitVec 32) (j : ℕ) : EReal := (((BitVec.setWidth 4 (w.sshiftRight (4 * j))).toInt : ℝ) : EReal)

/-- The kernels' field (a shift by `4 j`, cut to four bits) is `nib`. -/
theorem kernel_field (w : BitVec 32) (j : ℕ) (h : j < 8) :
    FloatOps.sitofp (F := Ideal) FTy.bf16
      (BitVec.setWidth 4 (IntOp.shrsi ArithUnit.vector w (IntOp.muli (4#32) (BitVec.ofNat 32 j)))) = nib w j := by
  interval_cases j <;> rfl

/-- The plain definition's fields of a word, stacked: field `p` is the word shifted by `4 p`, its low four bits. -/
def digit (w : BitVec 32) (p : ℕ) : BitVec 32 :=
  if _h : p < 1 then IntOp.andi (IntOp.shrsi ArithUnit.vector w 0#32) 15#32 else
  if _h : p - 1 < 1 then IntOp.andi (IntOp.shrsi ArithUnit.vector w 4#32) 15#32 else
  if _h : p - 1 - 1 < 1 then IntOp.andi (IntOp.shrsi ArithUnit.vector w 8#32) 15#32 else
  if _h : p - 1 - 1 - 1 < 1 then IntOp.andi (IntOp.shrsi ArithUnit.vector w 12#32) 15#32 else
  if _h : p - 1 - 1 - 1 - 1 < 1 then IntOp.andi (IntOp.shrsi ArithUnit.vector w 16#32) 15#32 else
  if _h : p - 1 - 1 - 1 - 1 - 1 < 1 then IntOp.andi (IntOp.shrsi ArithUnit.vector w 20#32) 15#32 else
  if _h : p - 1 - 1 - 1 - 1 - 1 - 1 < 1 then IntOp.andi (IntOp.shrsi ArithUnit.vector w 24#32) 15#32 else
  IntOp.andi (IntOp.shrsi ArithUnit.vector w 28#32) 15#32

/-- The low four bits of a word, kept as a word. -/
theorem and_15 (v : BitVec 32) : v &&& 15#32 = BitVec.setWidth 32 (BitVec.setWidth 4 v) := by
  apply BitVec.eq_of_toNat_eq
  have h := Nat.and_two_pow_sub_one_eq_mod v.toNat 4
  simp only [BitVec.toNat_and, BitVec.toNat_setWidth, BitVec.toNat_ofNat]
  norm_num at h ⊢
  omega

theorem digit_eq (w : BitVec 32) (p : ℕ) (h : p < 8) :
    digit w p = BitVec.setWidth 32 (BitVec.setWidth 4 (w.sshiftRight (4 * p))) := by
  rw [← and_15]
  interval_cases p <;> rfl

/-- Four bits, as a word, less sixteen from eight on, are the signed number. -/
theorem sign_digit : ∀ v : BitVec 4,
    (BitVec.setWidth 8 (Scalar.select (IntOp.cmpi CmpIPredicate.sge (BitVec.setWidth 32 v) 8#32)
      (IntOp.subi (BitVec.setWidth 32 v) 16#32) (BitVec.setWidth 32 v))).toInt = v.toInt := by
  decide

/-- The plain definition's signed field is `nib`. -/
theorem plain_field (w : BitVec 32) (p : ℕ) (h : p < 8) :
    FloatOps.sitofp (F := Ideal) FTy.bf16 (BitVec.setWidth 8
      (Scalar.select (IntOp.cmpi CmpIPredicate.sge (digit w p) 8#32) (IntOp.subi (digit w p) 16#32) (digit w p))) = nib w p := by
  rw [digit_eq w p h]
  exact congrArg (fun z : ℤ => ((z : ℝ) : EReal)) (sign_digit _)

section Weights
variable {M P G K n : ℕ}

/-- Weight of input feature `k` and output feature `j`: field `k % 8` of word `k / 8`, times the scale of group `k / 128`. -/
def wt (hP : K = 8 * P) (hG : K = 128 * G) (w : Vec Ideal ⟨2, ![P, n]⟩ .i32) (g : Vec Ideal ⟨2, ![G, n]⟩ .fp8e4m3)
    (k : Fin K) (j : Fin n) : EReal :=
  nib (w (ix2 ⟨k.val / 8, by have := k.isLt; omega⟩ j)) (k.val % 8) * g (ix2 ⟨k.val / 128, by have := k.isLt; omega⟩ j)

/-- A linear layer at one point: activation codes times weights, summed over the input features, times the row's scale and
    the column's. -/
def lin (hP : K = 8 * P) (hG : K = 128 * G) (a : Vec Ideal ⟨2, ![M, K]⟩ .fp8e4m3) (s : Vec Ideal ⟨2, ![M, 1]⟩ .f32)
    (w : Vec Ideal ⟨2, ![P, n]⟩ .i32) (g : Vec Ideal ⟨2, ![G, n]⟩ .fp8e4m3) (c : Fin n → EReal) (i : Fin M) (j : Fin n) : EReal :=
  (∑ k : Fin K, a (ix2 i k) * wt hP hG w g k j) * s (ix2 i 0) * c j

/-- One group of 128 weights unpacked from the sixteen rows of words and the row of scales that hold it. -/
theorem piece (hP : K = 8 * P) (hG : K = 128 * G) (w : Vec Ideal ⟨2, ![P, n]⟩ .i32) (g : Vec Ideal ⟨2, ![G, n]⟩ .fp8e4m3)
    (a b : ℕ) (pa) (pb) (x : Fin 128) (j : Fin n) (k : Fin K) (hk : k.val = 128 * b + x.val) (ha : a = 16 * b) :
    nib (View.ld w (Rect.unit (s := ⟨2, ![P, n]⟩) ![a, 0] ![16, n] pa) (ix2 ⟨x.val / 8, by have := x.isLt; omega⟩ j)) (x.val % 8)
      * View.ld g (Rect.unit (s := ⟨2, ![G, n]⟩) ![b, 0] ![1, n] pb) (ix2 0 j) = wt hP hG w g k j := by
  have hx := x.isLt
  have hk' := k.isLt
  have e1 : View.ld w (Rect.unit (s := ⟨2, ![P, n]⟩) ![a, 0] ![16, n] pa) (ix2 ⟨x.val / 8, by omega⟩ j)
      = w (ix2 ⟨k.val / 8, by omega⟩ j) := by
    refine congrArg w (funext fun d => ?_)
    fin_cases d
    · exact Fin.ext (by show a + 1 * (x.val / 8) = k.val / 8; omega)
    · exact Fin.ext (by show 0 + 1 * j.val = j.val; omega)
  have e2 : View.ld g (Rect.unit (s := ⟨2, ![G, n]⟩) ![b, 0] ![1, n] pb) (ix2 0 j)
      = g (ix2 ⟨k.val / 128, by omega⟩ j) := by
    refine congrArg g (funext fun d => ?_)
    fin_cases d
    · exact Fin.ext (by show b + 1 * 0 = k.val / 128; omega)
    · exact Fin.ext (by show 0 + 1 * j.val = j.val; omega)
  have e3 : x.val % 8 = k.val % 8 := by omega
  rw [e1, e2, e3]
  rfl

/-- The plain definition sums over words and fields; a linear layer's sum runs over the features. -/
theorem sum_fields (hP : K = 8 * P) (hG : K = 128 * G) (f : Fin K → EReal) (w : Vec Ideal ⟨2, ![P, n]⟩ .i32)
    (g : Vec Ideal ⟨2, ![G, n]⟩ .fp8e4m3) (j : Fin n) (F : Fin P → Fin 8 → EReal)
    (h : ∀ (x : Fin P) (y : Fin 8) (hl : x.val * 8 + y.val < K) (hg : x.val / 16 < G),
      F x y = f ⟨x.val * 8 + y.val, hl⟩ * (nib (w (ix2 x j)) y.val * g (ix2 ⟨x.val / 16, hg⟩ j))) :
    ∑ x : Fin P, ∑ y : Fin 8, F x y = ∑ k : Fin K, f k * wt hP hG w g k j := by
  refine Fin.sum_mul_add_congr (fun x y hl => ?_) (by omega)
  have hx := x.isLt
  have hy := y.isLt
  rw [h x y hl (by omega)]
  have e1 : (⟨(x.val * 8 + y.val) / 8, by omega⟩ : Fin P) = x := Fin.ext (by show (x.val * 8 + y.val) / 8 = x.val; omega)
  have e2 : (x.val * 8 + y.val) % 8 = y.val := by omega
  have e3 : (⟨(x.val * 8 + y.val) / 128, by omega⟩ : Fin G) = ⟨x.val / 16, by omega⟩ :=
    Fin.ext (by show (x.val * 8 + y.val) / 128 = x.val / 16; omega)
  simp only [wt, e1, e2, e3]

/-- The output projection added to the residual. -/
def oProj (a : Vec Ideal ⟨2, ![1536, 2048]⟩ .fp8e4m3) (s : Vec Ideal ⟨2, ![1536, 1]⟩ .f32) (w : Vec Ideal ⟨2, ![256, 8192]⟩ .i32)
    (g : Vec Ideal ⟨2, ![16, 8192]⟩ .fp8e4m3) (c : Vec Ideal ⟨1, ![8192]⟩ .f32) (x : Vec Ideal ⟨2, ![1536, 8192]⟩ .bf16) :
    Vec Ideal ⟨2, ![1536, 8192]⟩ .f32 :=
  fun i => x i + lin (P := 256) (G := 16) (K := 2048) rfl rfl a s w g (fun j => c (ix1 j)) (i 0) (i 1)

/-- The down projection added to the residual. -/
def down (a : Vec Ideal ⟨2, ![1536, 7168]⟩ .fp8e4m3) (s : Vec Ideal ⟨2, ![1536, 1]⟩ .f32) (w : Vec Ideal ⟨2, ![896, 8192]⟩ .i32)
    (g : Vec Ideal ⟨2, ![56, 8192]⟩ .fp8e4m3) (c : Vec Ideal ⟨1, ![8192]⟩ .f32) (x : Vec Ideal ⟨2, ![1536, 8192]⟩ .f32) :
    Vec Ideal ⟨2, ![1536, 8192]⟩ .bf16 :=
  fun i => x i + lin (P := 896) (G := 56) (K := 7168) rfl rfl a s w g (fun j => c (ix1 j)) (i 0) (i 1)

/-- The gate's silu times the up projection: column `j` of the result from columns `j` and `7168 + j` of the weights. -/
def gateUp (a : Vec Ideal ⟨2, ![1536, 8192]⟩ .fp8e4m3) (s : Vec Ideal ⟨2, ![1536, 1]⟩ .f32) (w : Vec Ideal ⟨2, ![1024, 14336]⟩ .i32)
    (g : Vec Ideal ⟨2, ![64, 14336]⟩ .fp8e4m3) (c : Vec Ideal ⟨1, ![14336]⟩ .f32) : Vec Ideal ⟨2, ![1536, 7168]⟩ .f32 :=
  fun i =>
    let at' (j : Fin 14336) : EReal := lin (P := 1024) (G := 64) (K := 8192) rfl rfl a s w g (fun j => c (ix1 j)) (i 0) j
    let gate := at' ⟨(i 1).val, by have := (i 1).isLt; simp at this; omega⟩
    gate * Ideal.logistic gate * at' ⟨7168 + (i 1).val, by have := (i 1).isLt; simp at this; omega⟩

end Weights

/-- Reading a whole buffer back after writes is reading what the writes put there. -/
theorem readCov_whole {sig : RefSig} {κ : Kind} {sp : Space} {s : Shape} {e : EltTy} (v : View sig κ sp s e)
    (L : List (View.Piece (Elt Ideal) s e)) {off : Fin s.rank → ℕ} (inb : ∀ a, off a + s.size a ≤ s.size a) (h : ∀ a, off a = 0) :
    v.readCov L (Rect.unit off (no_index s.size) inb).toLoadRect = View.canon L :=
  (View.readCov_eq_canon' v L _).trans (View.ld_unit_lit inb (View.canon L) h)

end Cert.Words
-- ==== Proof.QkvSpec.lean ====
module

public import proofs.«01_k».proof.Proof.Words

@[expose] public section

/-! The query, key and value projection in plain terms: heads of 128 columns, rotated. Nothing here names a program. -/

noncomputable section

namespace Cert.Qkv
open Idealize.ShloMosaic Cert.Words

/-- A head `v` of 128 columns turned by angles of which `c` and `s` are the cosines and sines. -/
def rotary (v : Fin 128 → EReal) (c s : Fin 64 → EReal) (p : Fin 128) : EReal :=
  if h : p.val < 64 then v p * c ⟨p.val, h⟩ - v ⟨p.val + 64, by omega⟩ * s ⟨p.val, h⟩
  else v p * c ⟨p.val - 64, by omega⟩ + v ⟨p.val - 64, by omega⟩ * s ⟨p.val - 64, by omega⟩

/-- The kernel's way: each column times its cosine, and the column half a head away times its sine, whose sign is the half's. -/
theorem rotary_eq (v c2 s2 : Fin 128 → EReal) (c s : Fin 64 → EReal) (p : Fin 128)
    (hc : ∀ q : Fin 128, c2 q = c ⟨q.val % 64, Nat.mod_lt _ (by omega)⟩)
    (hs : ∀ q : Fin 128, s2 q = if q.val < 64 then -s ⟨q.val % 64, Nat.mod_lt _ (by omega)⟩ else s ⟨q.val % 64, Nat.mod_lt _ (by omega)⟩) :
    v p * c2 p + v ⟨(p.val + 64) % 128, Nat.mod_lt _ (by omega)⟩ * s2 p = rotary v c s p := by
  rw [hc, hs, rotary]
  have hp := p.isLt
  by_cases h : p.val < 64
  · rw [if_pos h, dif_pos h, mul_neg, ← sub_eq_add_neg]
    simp only [Nat.mod_eq_of_lt h, Nat.mod_eq_of_lt (show p.val + 64 < 128 by omega)]
  · rw [if_neg h, dif_neg h]
    simp only [show p.val % 64 = p.val - 64 by omega, show (p.val + 64) % 128 = p.val - 64 by omega]

/-- An element over the scale `d`, held within ±448. -/
def clip (x d : EReal) : EReal :=
  min (Ideal.ofBits .f32 0x43E00000#32) (max (Ideal.ofBits .f32 0xC3E00000#32) (Ideal.div x d))

variable (a : Vec Ideal ⟨2, ![1536, 8192]⟩ .fp8e4m3) (s : Vec Ideal ⟨2, ![1536, 1]⟩ .f32) (w : Vec Ideal ⟨2, ![1024, 2560]⟩ .i32)
  (g : Vec Ideal ⟨2, ![64, 2560]⟩ .fp8e4m3) (c : Vec Ideal ⟨1, ![2560]⟩ .f32) (cos sin : Vec Ideal ⟨3, ![3, 512, 64]⟩ .f32)
  (ks vs : Vec Ideal ⟨1, ![2]⟩ .f32)

/-- The linear layer: row `i`, column `j`. -/
def out (i : Fin 1536) (j : Fin 2560) : EReal := lin (P := 1024) (G := 64) (K := 8192) rfl rfl a s w g (fun j => c (ix1 j)) i j

/-- Row `i`'s cosines (or sines): position `i % 512` of sequence `i / 512`. -/
def angle (x : Vec Ideal ⟨3, ![3, 512, 64]⟩ .f32) (i : Fin 1536) (q : Fin 64) : EReal :=
  x (ix3 ⟨i.val / 512, by have := i.isLt; omega⟩ ⟨i.val % 512, Nat.mod_lt _ (by omega)⟩ q)

/-- Column `p` of head `h`. -/
def col (h : Fin 20) (p : Fin 128) : Fin 2560 := ⟨128 * h.val + p.val, by have := h.isLt; have := p.isLt; omega⟩

/-- Column `p` of head `h`, turned. -/
def turned (i : Fin 1536) (h : Fin 20) (p : Fin 128) : EReal :=
  rotary (fun q => out a s w g c i (col h q)) (angle cos i) (angle sin i) p

/-- Every head turned. -/
def heads : Vec Ideal ⟨2, ![1536, 2560]⟩ .bf16 := fun i =>
  turned a s w g c cos sin (i 0) ⟨(i 1).val / 128, by have h : (i 1).val < 2560 := (i 1).isLt; omega⟩
    ⟨(i 1).val % 128, Nat.mod_lt _ (by omega)⟩

/-- The key heads, 16 and 17, turned and quantised, each with its scale. -/
def keys : Vec Ideal ⟨2, ![1536, 256]⟩ .fp8e4m3 := fun i =>
  clip (turned a s w g c cos sin (i 0) ⟨16 + (i 1).val / 128, by have h : (i 1).val < 256 := (i 1).isLt; omega⟩
    ⟨(i 1).val % 128, Nat.mod_lt _ (by omega)⟩) (ks (ix1 ⟨(i 1).val / 128, by have h : (i 1).val < 256 := (i 1).isLt; omega⟩))

/-- The value heads, 18 and 19, quantised, each with its scale. -/
def values : Vec Ideal ⟨2, ![1536, 256]⟩ .fp8e4m3 := fun i =>
  clip (out a s w g c (i 0) (col ⟨18 + (i 1).val / 128, by have h : (i 1).val < 256 := (i 1).isLt; omega⟩
    ⟨(i 1).val % 128, Nat.mod_lt _ (by omega)⟩)) (vs (ix1 ⟨(i 1).val / 128, by have h : (i 1).val < 256 := (i 1).isLt; omega⟩))

end Cert.Qkv
-- ==== Proof.QkvWeights.lean ====
module

public import proofs.«01_k».proof.Defs
public import proofs.«01_k».proof.Proof.Gen.QkvIdeal.Value
public import proofs.«01_k».proof.Proof.QkvSpec

@[expose] public section

set_option maxRecDepth 16384
noncomputable section

namespace Cert.QkvIdeal.Hand
open Idealize.ShloMosaic Idealize.SL.Sem Cert.QkvIdeal Cert.Words
open Cert.QkvIdeal.Gen Idealize.ShloMosaic.TcCoe
variable (m : (ℓ : Loc nD τ sig) → Buf (Elt Ideal) ℓ)

/-- Grid point `t` works on row block `t % 3` and column block `t / 3`; the keys and values have a row block only in the
    last column block. -/
theorem idx : ∀ t : Fin cfg0.N, win0_0.index t = ![t.val % 3, 0] ∧ win0_1.index t = ![t.val % 3, 0]
    ∧ win0_2.index t = ![0, t.val / 3] ∧ win0_3.index t = ![0, t.val / 3] ∧ win0_4.index t = ![0, t.val / 3]
    ∧ win0_5.index t = ![t.val % 3, 0] ∧ win0_6.index t = ![t.val % 3, 0] ∧ win0_7.index t = ![0, 0]
    ∧ win0_8.index t = ![t.val % 3, t.val / 3] ∧ (12 ≤ t.val → win0_9.index t = ![t.val % 3, 0] ∧ win0_10.index t = ![t.val % 3, 0]) :=
  (by decide +kernel : ∀ t : Fin grid0.N, _)

/-- One group of weights, unpacked: fields times scales. -/
theorem unpack (w : Vec Ideal S16x512 .i32) (s : Vec Ideal S1x512 .fp8e4m3) (x : S128x512.Idx) :
    k0_pay4 w s x = nib (w (ix2 ⟨(x 0).val / 8, by have := (x 0).isLt; simp at this; omega⟩ (x 1))) ((x 0).val % 8)
      * s (ix2 0 (x 1)) := by
  unfold_payloads
  pointwise
  rw [kernel_field _ _ (Nat.mod_lt _ (by omega))]

/-- A group of weights stored at rows `o …` is those rows of the weights. -/
theorem unpack_at (w : Vec Ideal S1024x512 .i32) (s : Vec Ideal S64x512 .fp8e4m3) (a b o : ℕ) (pa) (pb) (x : S128x512.Idx)
    (y : S8192x512.Idx) (ha : a = 16 * b) (ho : o = 128 * b) (h0 : (y 0).val = o + (x 0).val) (h1 : (y 1).val = 0 + (x 1).val) :
    k0_pay4 (View.ld w (Rect.unit (s := S1024x512) ![a, 0] ![16, 512] pa)) (View.ld s (Rect.unit (s := S64x512) ![b, 0] ![1, 512] pb)) x
      = wt (P := 1024) (G := 64) (K := 8192) rfl rfl w s (y 0) (y 1) := by
  rw [unpack, ← piece (P := 1024) (G := 64) (K := 8192) rfl rfl w s a b pa pb (x 0) (y 1) (y 0) (by omega) ha]
  have e : x 1 = y 1 := Fin.ext (by omega)
  rw [e]

/-- The weights of a point's column block, unpacked. -/
def weights (c : Dev nD) (t : Fin cfg0.N) : Vec Ideal S8192x512 .bf16 :=
  fun y => wt (P := 1024) (G := 64) (K := 8192) rfl rfl (iblk m c 2 t) (iblk m c 3 t) (y 0) (y 1)

set_option maxHeartbeats 2000000 in
/-- Where a column block begins, the scratch takes its unpacked weights. -/
theorem scr_start (c : Dev nD) (t : Fin cfg0.N) (h : t.val % 3 = 0) : (outsAt0 m c t.val t.isLt).2.2.2 = weights m c t := by
  funext y
  by_cases h1 : 12 ≤ t.val
  · rw [outsAt0_C m c t h h1]
    frame_out
    canon_tiles x h
    all_goals exact unpack_at (iblk m c 2 t) (iblk m c 3 t) _ _ _ _ _ x y rfl rfl (by omega) (by omega)
  · rw [outsAt0_A m c t h h1]
    frame_out
    canon_tiles x h
    all_goals exact unpack_at (iblk m c 2 t) (iblk m c 3 t) _ _ _ _ _ x y rfl rfl (by omega) (by omega)

/-- Points of one column block have the same weights. -/
theorem same_words (c : Dev nD) (n : ℕ) (hn : n + 1 < cfg0.N) (h : ¬(n + 1) % 3 = 0) :
    weights m c ⟨n, by omega⟩ = weights m c ⟨n + 1, hn⟩ := by
  have e : n / 3 = (n + 1) / 3 := by omega
  obtain ⟨-, -, a2, a3, -⟩ := idx ⟨n, by omega⟩
  obtain ⟨-, -, b2, b3, -⟩ := idx ⟨n + 1, hn⟩
  have e2 : iblk m c 2 ⟨n, by omega⟩ = iblk m c 2 ⟨n + 1, hn⟩ := by funext y; blk_ext! [iblk, V, a2, b2, e]
  have e3 : iblk m c 3 ⟨n, by omega⟩ = iblk m c 3 ⟨n + 1, hn⟩ := by funext y; blk_ext! [iblk, V, a3, b3, e]
  unfold weights
  rw [e2, e3]

/-- The scratch holds the unpacked weights of the point's column block. -/
theorem scr (c : Dev nD) (n : ℕ) (hn : n < cfg0.N) : (outsAt0 m c n hn).2.2.2 = weights m c ⟨n, hn⟩ := by
  induction n with
  | zero => exact scr_start m c ⟨0, hn⟩ rfl
  | succ n ih =>
    by_cases h : (n + 1) % 3 = 0
    · exact scr_start m c ⟨n + 1, hn⟩ h
    · rw [← same_words m c n hn h]
      by_cases h1 : 12 ≤ n + 1
      · rw [outsAt0_D m c ⟨n + 1, hn⟩ h h1]
        exact ih _
      · rw [outsAt0_B m c ⟨n + 1, hn⟩ h h1]
        exact ih _

end Cert.QkvIdeal.Hand
-- ==== Proof.QkvHeads.lean ====
module

public import proofs.«01_k».proof.Defs
public import proofs.«01_k».proof.Proof.Gen.QkvIdeal.Skeleton
public import Idealize.ShloMosaic.Lib.Pipeline.ValueKit
public import Idealize.ShloMosaic.Lib.KernelVsHost
public import proofs.«01_k».proof.Proof.QkvSpec

@[expose] public section

set_option maxRecDepth 16384
noncomputable section

namespace Cert.QkvIdeal.Hand
open Idealize.ShloMosaic Idealize.SL.Sem Cert.QkvIdeal Cert.Words
open Cert.QkvIdeal.Gen Idealize.ShloMosaic.TcCoe

/-- 128 columns of a block, from column `o` on. -/
theorem slice_at (v : FVec Ideal S512x512 .f32) (o : ℕ) (hs) (r : Fin 512) (p : Fin 128) (u : Fin 512) (hu : u.val = o + p.val) :
    extractStridedSlice S512x128 ![0, o] v hs (ix2 r p) = v (ix2 r u) := by
  have hl : o + p.val < 512 := by omega
  obtain rfl : (⟨o + p.val, hl⟩ : Fin 512) = u := Fin.ext hu.symm
  pointwise []

/-- A head of a block with the cosines `c2` and sines `s2`, turned as the kernel does it. -/
theorem turn_at (v : FVec Ideal S512x128 .f32) (c2 s2 : FVec Ideal S512x128 .f32) (r : Fin 512) (p : Fin 128) :
    addf (mulf v c2) (mulf (dynamicRotate 1 64#32 none v rotates_S512x128_d1) s2) (ix2 r p)
    = v (ix2 r p) * c2 (ix2 r p) + v (ix2 r ⟨(p.val + 64) % 128, Nat.mod_lt _ (by omega)⟩) * s2 (ix2 r p) := by
  have e := dynamicRotate_apply 1 64#32 v rotates_S512x128_d1 (ix2 r p) (ix2 r ⟨(p.val + 64) % 128, Nat.mod_lt _ (by omega)⟩)
    (fun b => by
      fin_cases b
      · rfl
      · show (p.val + 64) % 128 = (p.val + 128 - 64) % 128
        omega)
  rw [← e]
  rfl

/-- The kernel's matrix product times its scales. -/
theorem product_at (a : Vec Ideal S512x8192 .fp8e4m3) (W : Vec Ideal S8192x512 .bf16) (s : Vec Ideal S512x1 .f32)
    (c : Vec Ideal S1x512 .f32) (r : Fin 512) (j : Fin 512) :
    k0_pay100 a W s c (ix2 r j) = (∑ k, a (ix2 r k) * W (ix2 k j)) * s (ix2 r 0) * c (ix2 0 j) := by
  pointwise [k0_pay100]

/-- The kernel's clipped quotient. -/
theorem clip_at (v : FVec Ideal S512x128 .f32) (d : Elt Ideal .f32) (x : S512x128.Idx) :
    truncf .fp8e4m3 (minimumf (broadcast S512x128 (Scalar.ofBits (F := Ideal) .f32 0x43E00000#32)) (maximumf (broadcast S512x128 (Scalar.ofBits .f32 0xC3E00000#32))
      (divf v (broadcast S512x128 d)))) bitsLt_fp8e4m3_f32 x = Qkv.clip (v x) d := by
  pointwise [Qkv.clip]

/-- A block with each of its four heads turned as the kernel does it. -/
def block (v : FVec Ideal S512x512 .f32) (c2 s2 : FVec Ideal S512x128 .f32) (r u : Fin 512) : EReal :=
  v (ix2 r u) * c2 (ix2 r ⟨u.val % 128, Nat.mod_lt _ (by omega)⟩)
    + v (ix2 r ⟨u.val / 128 * 128 + (u.val % 128 + 64) % 128, by omega⟩) * s2 (ix2 r ⟨u.val % 128, Nat.mod_lt _ (by omega)⟩)

/-- The head from column `o` on, turned, is those columns of the block. -/
theorem head_at (v : FVec Ideal S512x512 .f32) (c2 s2 : FVec Ideal S512x128 .f32) (o : ℕ) (hs : S512x512.Slices ![0, o] S512x128)
    (ho : o % 128 = 0) (x : S512x128.Idx) (r u : Fin 512) (hr : r.val = (x 0).val) (hu : u.val = o + (x 1).val) :
    addf (mulf (extractStridedSlice S512x128 ![0, o] v hs) c2)
      (mulf (dynamicRotate 1 64#32 none (extractStridedSlice S512x128 ![0, o] v hs) rotates_S512x128_d1) s2) x
    = block v c2 s2 r u := by
  idx_vars x
  obtain rfl : r = x0 := Fin.ext hr
  have hx : u.val = o + x1.val := hu
  have hl : x1.val < 128 := x1.isLt
  refine (turn_at _ c2 s2 r x1).trans ?_
  rw [slice_at v o hs r x1 u hx,
    slice_at v o hs r _ ⟨u.val / 128 * 128 + (u.val % 128 + 64) % 128, by omega⟩
      (show u.val / 128 * 128 + (u.val % 128 + 64) % 128 = o + (x1.val + 64) % 128 by omega), block]
  have e : (⟨u.val % 128, Nat.mod_lt _ (by omega)⟩ : Fin 128) = x1 := Fin.ext (show u.val % 128 = x1.val by omega)
  rw [e]

/-- The same, cast to bfloat16. -/
theorem query_at (v : FVec Ideal S512x512 .f32) (c2 s2 : FVec Ideal S512x128 .f32) (o : ℕ) (hs : S512x512.Slices ![0, o] S512x128)
    (ho : o % 128 = 0) (x : S512x128.Idx) (r u : Fin 512) (hr : r.val = (x 0).val) (hu : u.val = o + (x 1).val) :
    truncf .bf16 (addf (mulf (extractStridedSlice S512x128 ![0, o] v hs) c2)
      (mulf (dynamicRotate 1 64#32 none (extractStridedSlice S512x128 ![0, o] v hs) rotates_S512x128_d1) s2)) bitsLt_bf16_f32 x
    = block v c2 s2 r u :=
  head_at v c2 s2 o hs ho x r u hr hu

/-- The kernel's codes of 128 columns `v`, with the scale `d`. -/
abbrev codes (v : FVec Ideal S512x128 .f32) (d : Elt Ideal .f32) : FVec Ideal S512x128 .fp8e4m3 :=
  truncf .fp8e4m3 (minimumf (broadcast S512x128 (Scalar.ofBits (F := Ideal) .f32 0x43E00000#32))
    (maximumf (broadcast S512x128 (Scalar.ofBits .f32 0xC3E00000#32)) (divf v (broadcast S512x128 d)))) bitsLt_fp8e4m3_f32

/-- The same, quantised with the scale `d`. -/
theorem key_at (v : FVec Ideal S512x512 .f32) (c2 s2 : FVec Ideal S512x128 .f32) (d : Elt Ideal .f32) (o : ℕ)
    (hs : S512x512.Slices ![0, o] S512x128) (ho : o % 128 = 0) (x : S512x128.Idx) (r u : Fin 512) (hr : r.val = (x 0).val)
    (hu : u.val = o + (x 1).val) :
    codes (addf (mulf (extractStridedSlice S512x128 ![0, o] v hs) c2)
      (mulf (dynamicRotate 1 64#32 none (extractStridedSlice S512x128 ![0, o] v hs) rotates_S512x128_d1) s2)) d x
    = Qkv.clip (block v c2 s2 r u) d :=
  (clip_at _ d x).trans (congrArg (Qkv.clip · d) (head_at v c2 s2 o hs ho x r u hr hu))

/-- The columns from `o` on, quantised with the scale `d`. -/
theorem value_at (v : FVec Ideal S512x512 .f32) (d : Elt Ideal .f32) (o : ℕ)
    (hs : S512x512.Slices ![0, o] S512x128) (x : S512x128.Idx) (r u : Fin 512) (hr : r.val = (x 0).val) (hu : u.val = o + (x 1).val) :
    codes (extractStridedSlice S512x128 ![0, o] v hs) d x = Qkv.clip (v (ix2 r u)) d := by
  refine (clip_at _ d x).trans (congrArg (Qkv.clip · d) ?_)
  idx_vars x
  obtain rfl : r = x0 := Fin.ext hr
  exact slice_at v o hs r x1 u hu

section Tiles
variable (a : Vec Ideal S512x8192 .fp8e4m3) (W : Vec Ideal S8192x512 .bf16) (s : Vec Ideal S512x1 .f32) (g : Vec Ideal S1x512 .f32)
  (c2 s2 : Vec Ideal S512x128 .f32)

/-- The four stores of a block, read back: the block of the linear layer, its heads turned. -/
theorem tiles (y : S512x512.Idx) :
    View.canon (Val := Elt Ideal) (e := .bf16) [⟨Rect.unit ![0, 384] ![512, 128] inb_S512x512_S512x128_0_384, k0_pay2 (k0_pay100 a W s g) (k0_pay101 c2) (k0_pay102 s2)⟩,
      ⟨Rect.unit ![0, 256] ![512, 128] inb_S512x512_S512x128_0_256, k0_pay1 (k0_pay102 s2) (k0_pay105 a W s g) (k0_pay106 a W s g c2)⟩,
      ⟨Rect.unit ![0, 128] ![512, 128] inb_S512x512_S512x128_0_128, k0_pay104 a W s g c2 s2⟩,
      ⟨Rect.unit ![0, 0] ![512, 128] inb_S512x512_S512x128_0_0, k0_pay103 a W s g c2 s2⟩] y
    = block (k0_pay100 a W s g) (k0_pay101 c2) (k0_pay102 s2) (y 0) (y 1) := by
  canon_tiles x h
  · exact query_at (k0_pay100 a W s g) (k0_pay101 c2) (k0_pay102 s2) 384 slices_S512x512_o0_384_S512x128 rfl x (y 0) (y 1) (by omega) (by omega)
  · exact query_at (k0_pay100 a W s g) (k0_pay101 c2) (k0_pay102 s2) 256 slices_S512x512_o0_256_S512x128 rfl x (y 0) (y 1) (by omega) (by omega)
  · exact query_at (k0_pay100 a W s g) (k0_pay101 c2) (k0_pay102 s2) 128 slices_S512x512_o0_128_S512x128 rfl x (y 0) (y 1) (by omega) (by omega)
  · exact query_at (k0_pay100 a W s g) (k0_pay101 c2) (k0_pay102 s2) 0 slices_S512x512_o0_0_S512x128 rfl x (y 0) (y 1) (by omega) (by omega)

/-- The two stores of the key heads' codes, read back. -/
theorem key_tiles (d0 d1 : Elt Ideal .f32) (y : S512x256.Idx) :
    View.canon (Val := Elt Ideal) (e := .fp8e4m3)
      [⟨Rect.unit ![0, 128] ![512, 128] inb_S512x256_S512x128_0_128, k0_pay98 (k0_pay100 a W s g) (k0_pay101 c2) (k0_pay102 s2) d1⟩,
      ⟨Rect.unit ![0, 0] ![512, 128] inb_S512x256_S512x128_0_0, k0_pay96 (k0_pay100 a W s g) (k0_pay101 c2) (k0_pay102 s2) d0⟩] y
    = Qkv.clip (block (k0_pay100 a W s g) (k0_pay101 c2) (k0_pay102 s2) (y 0)
        ⟨(y 1).val, by have h : (y 1).val < 256 := (y 1).isLt; omega⟩) (if (y 1).val < 128 then d0 else d1) := by
  canon_tiles x h
  · rw [if_neg (by omega)]
    exact key_at (k0_pay100 a W s g) (k0_pay101 c2) (k0_pay102 s2) d1 128 slices_S512x512_o0_128_S512x128 rfl x (y 0) _ (by omega) h1
  · rw [if_pos (by omega)]
    exact key_at (k0_pay100 a W s g) (k0_pay101 c2) (k0_pay102 s2) d0 0 slices_S512x512_o0_0_S512x128 rfl x (y 0) _ (by omega)
      (by show (y 1).val = 0 + (x 1).val; omega)

/-- The two stores of the value heads' codes, read back. -/
theorem value_tiles (d0 d1 : Elt Ideal .f32) (y : S512x256.Idx) :
    View.canon (Val := Elt Ideal) (e := .fp8e4m3)
      [⟨Rect.unit ![0, 128] ![512, 128] inb_S512x256_S512x128_0_128, k0_pay3 (k0_pay100 a W s g) d1⟩,
      ⟨Rect.unit ![0, 0] ![512, 128] inb_S512x256_S512x128_0_0, k0_pay97 (k0_pay100 a W s g) d0⟩] y
    = Qkv.clip (k0_pay100 a W s g (ix2 (y 0) ⟨256 + (y 1).val, by have h : (y 1).val < 256 := (y 1).isLt; omega⟩))
        (if (y 1).val < 128 then d0 else d1) := by
  canon_tiles x h
  · rw [if_neg (by omega)]
    exact value_at (k0_pay100 a W s g) d1 384 slices_S512x512_o0_384_S512x128 x (y 0) _ (by omega)
      (by show 256 + (y 1).val = 384 + (x 1).val; omega)
  · rw [if_pos (by omega)]
    exact value_at (k0_pay100 a W s g) d0 256 slices_S512x512_o0_256_S512x128 x (y 0) _ (by omega)
      (by show 256 + (y 1).val = 256 + (x 1).val; omega)

end Tiles

end Cert.QkvIdeal.Hand
-- ==== Proof.QkvKernel.lean ====
module

public import proofs.«01_k».proof.Proof.QkvWeights
public import proofs.«01_k».proof.Proof.QkvHeads

@[expose] public section

set_option maxRecDepth 16384
noncomputable section

namespace Cert.QkvIdeal.Hand
open Idealize.ShloMosaic Idealize.SL.Sem Cert.QkvIdeal Cert.Words
open Cert.QkvIdeal.Gen Idealize.ShloMosaic.TcCoe
variable (m : (ℓ : Loc nD τ sig) → Buf (Elt Ideal) ℓ)

/-- The linear layer's block at a point. -/
def linear (c : Dev nD) (t : Fin cfg0.N) : FVec Ideal S512x512 .f32 :=
  k0_pay100 (iblk m c 0 t) (weights m c t) (iblk m c 1 t) (iblk m c 4 t)

/-- Every head of a block turned. -/
def headsOf (c : Dev nD) (t : Fin cfg0.N) : FVec Ideal S512x512 .bf16 :=
  fun y => block (linear m c t) (k0_pay101 (iblk m c 5 t)) (k0_pay102 (iblk m c 6 t)) (y 0) (y 1)

/-- The codes of the two key heads of the last column block. -/
def keysOf (c : Dev nD) (t : Fin cfg0.N) : FVec Ideal S512x256 .fp8e4m3 := fun y =>
  Qkv.clip (block (linear m c t) (k0_pay101 (iblk m c 5 t)) (k0_pay102 (iblk m c 6 t)) (y 0)
    ⟨(y 1).val, by have h : (y 1).val < 256 := (y 1).isLt; omega⟩)
    (if (y 1).val < 128 then iblk m c 7 t (ix2 0 0) else iblk m c 7 t (ix2 0 1))

/-- The codes of the two value heads of the last column block. -/
def valuesOf (c : Dev nD) (t : Fin cfg0.N) : FVec Ideal S512x256 .fp8e4m3 := fun y =>
  Qkv.clip (linear m c t (ix2 (y 0) ⟨256 + (y 1).val, by have h : (y 1).val < 256 := (y 1).isLt; omega⟩))
    (if (y 1).val < 128 then iblk m c 7 t (ix2 1 0) else iblk m c 7 t (ix2 1 1))

/-- A scale read by itself. -/
theorem scale_at (x : Vec Ideal S2x2 .f32) (a b : ℕ) (ha : a < 2) (hb : b < 2) (pa) (h) :
    View.ld x (Rect.unit (s := S2x2) ![a, b] ![1, 1] pa) (Shape.Idx.first h) = x (ix2 ⟨a, ha⟩ ⟨b, hb⟩) := by
  refine congrArg x (funext fun d => ?_)
  fin_cases d <;> exact Fin.ext rfl

/-- What a point leaves that unpacks no weights and is not in the last column block. -/
theorem out_B (c : Dev nD) (t : Fin cfg0.N) (h0 : ¬t.val % 3 = 0) (h1 : ¬12 ≤ t.val) :
    (outsAt0 m c t.val t.isLt).1 = headsOf m c t := by
  have hs := scr m c t.val t.isLt
  rw [outsAt0_B m c t h0 h1] at hs ⊢
  dsimp only at hs ⊢
  funext y
  frame_out
  refine (tiles _ _ _ _ _ _ y).trans ?_
  refine congrArg (fun W => block (k0_pay100 (iblk m c 0 t) W (iblk m c 1 t) (iblk m c 4 t)) _ _ _ _) ?_
  exact (Memref.IsWhole.read_unread _ _).trans hs

/-- What a point leaves that unpacks no weights, in the last column block. -/
theorem out_D (c : Dev nD) (t : Fin cfg0.N) (h0 : ¬t.val % 3 = 0) (h1 : 12 ≤ t.val) :
    (outsAt0 m c t.val t.isLt).1 = headsOf m c t ∧ (outsAt0 m c t.val t.isLt).2.1 = keysOf m c t
    ∧ (outsAt0 m c t.val t.isLt).2.2.1 = valuesOf m c t := by
  have hs := scr m c t.val t.isLt
  rw [outsAt0_D m c t h0 h1] at hs ⊢
  dsimp only at hs ⊢
  refine ⟨?_, ?_, ?_⟩ <;> funext y <;> frame_out
  · refine (tiles _ _ _ _ _ _ y).trans ?_
    refine congrArg (fun W => block (k0_pay100 (iblk m c 0 t) W (iblk m c 1 t) (iblk m c 4 t)) _ _ _ _) ?_
    exact (Memref.IsWhole.read_unread _ _).trans hs
  · refine (key_tiles _ _ _ _ _ _ _ _ y).trans ?_
    refine congrArg₂ Qkv.clip ?_ (if_congr Iff.rfl (scale_at _ 0 0 (by decide) (by decide) _ _) (scale_at _ 0 1 (by decide) (by decide) _ _))
    refine congrArg (fun W => block (k0_pay100 (iblk m c 0 t) W (iblk m c 1 t) (iblk m c 4 t)) _ _ _ _) ?_
    exact (Memref.IsWhole.read_unread _ _).trans hs
  · refine (value_tiles _ _ _ _ _ _ y).trans ?_
    refine congrArg₂ Qkv.clip ?_ (if_congr Iff.rfl (scale_at _ 1 0 (by decide) (by decide) _ _) (scale_at _ 1 1 (by decide) (by decide) _ _))
    refine congrArg (fun W => k0_pay100 (iblk m c 0 t) W (iblk m c 1 t) (iblk m c 4 t) _) ?_
    exact (Memref.IsWhole.read_unread _ _).trans hs

/-- What a point leaves that unpacks its weights and is not in the last column block. -/
theorem out_A (c : Dev nD) (t : Fin cfg0.N) (h0 : t.val % 3 = 0) (h1 : ¬12 ≤ t.val) :
    (outsAt0 m c t.val t.isLt).1 = headsOf m c t := by
  have hs := scr m c t.val t.isLt
  rw [outsAt0_A m c t h0 h1] at hs ⊢
  dsimp only at hs ⊢
  funext y
  frame_out
  refine (tiles _ _ _ _ _ _ y).trans ?_
  refine congrArg (fun W => block (k0_pay100 (iblk m c 0 t) W (iblk m c 1 t) (iblk m c 4 t)) _ _ _ _) ?_
  refine (readCov_whole _ _ _ (by decide)).trans (Eq.trans ?_ hs)
  frame_out

set_option maxHeartbeats 2000000 in
/-- What a point leaves that unpacks its weights, in the last column block. -/
theorem out_C (c : Dev nD) (t : Fin cfg0.N) (h0 : t.val % 3 = 0) (h1 : 12 ≤ t.val) :
    (outsAt0 m c t.val t.isLt).1 = headsOf m c t ∧ (outsAt0 m c t.val t.isLt).2.1 = keysOf m c t
    ∧ (outsAt0 m c t.val t.isLt).2.2.1 = valuesOf m c t := by
  have hs := scr m c t.val t.isLt
  rw [outsAt0_C m c t h0 h1] at hs ⊢
  dsimp only at hs ⊢
  refine ⟨?_, ?_, ?_⟩ <;> funext y <;> frame_out
  · refine (tiles _ _ _ _ _ _ y).trans ?_
    refine congrArg (fun W => block (k0_pay100 (iblk m c 0 t) W (iblk m c 1 t) (iblk m c 4 t)) _ _ _ _) ?_
    refine (readCov_whole _ _ _ (by decide)).trans (Eq.trans ?_ hs)
    frame_out
  · refine (key_tiles _ _ _ _ _ _ _ _ y).trans ?_
    refine congrArg₂ Qkv.clip ?_ (if_congr Iff.rfl (scale_at _ 0 0 (by decide) (by decide) _ _) (scale_at _ 0 1 (by decide) (by decide) _ _))
    refine congrArg (fun W => block (k0_pay100 (iblk m c 0 t) W (iblk m c 1 t) (iblk m c 4 t)) _ _ _ _) ?_
    refine (readCov_whole _ _ _ (by decide)).trans (Eq.trans ?_ hs)
    frame_out
  · refine (value_tiles _ _ _ _ _ _ y).trans ?_
    refine congrArg₂ Qkv.clip ?_ (if_congr Iff.rfl (scale_at _ 1 0 (by decide) (by decide) _ _) (scale_at _ 1 1 (by decide) (by decide) _ _))
    refine congrArg (fun W => k0_pay100 (iblk m c 0 t) W (iblk m c 1 t) (iblk m c 4 t) _) ?_
    refine (readCov_whole _ _ _ (by decide)).trans (Eq.trans ?_ hs)
    frame_out

/-- Every point leaves its heads, turned. -/
theorem out_heads (c : Dev nD) (t : Fin cfg0.N) : (outsAt0 m c t.val t.isLt).1 = headsOf m c t := by
  by_cases h0 : t.val % 3 = 0 <;> by_cases h1 : 12 ≤ t.val
  · exact (out_C m c t h0 h1).1
  · exact out_A m c t h0 h1
  · exact (out_D m c t h0 h1).1
  · exact out_B m c t h0 h1

/-- The points of the last column block leave the codes of the keys and the values. -/
theorem out_codes (c : Dev nD) (t : Fin cfg0.N) (h1 : 12 ≤ t.val) :
    (outsAt0 m c t.val t.isLt).2.1 = keysOf m c t ∧ (outsAt0 m c t.val t.isLt).2.2.1 = valuesOf m c t := by
  by_cases h0 : t.val % 3 = 0
  · exact (out_C m c t h0 h1).2
  · exact (out_D m c t h0 h1).2

end Cert.QkvIdeal.Hand
-- ==== Proof.QkvArrays.lean ====
module

public import proofs.«01_k».proof.Proof.QkvKernel

@[expose] public section

set_option maxRecDepth 16384
noncomputable section

namespace Cert.QkvIdeal.Hand
open Idealize.ShloMosaic Idealize.SL.Sem Cert.QkvIdeal Cert.Words
open Cert.QkvIdeal.Gen Idealize.ShloMosaic.TcCoe
variable (m : (ℓ : Loc nD τ sig) → Buf (Elt Ideal) ℓ)

/-- A point's row of the arrays. -/
def row (t : Fin cfg0.N) (r : Fin 512) : Fin 1536 := ⟨t.val % 3 * 512 + r.val, by omega⟩

/-- A point's column of the linear layer. -/
def column (t : Fin cfg0.N) (u : Fin 512) : Fin 2560 :=
  ⟨t.val / 3 * 512 + u.val, by have ht : t.val < 15 := t.isLt; omega⟩

/-- The cosines a point is given, once for each half of a head. -/
theorem cos_at (c : Dev nD) (t : Fin cfg0.N) (r : Fin 512) (p : Fin 128) :
    k0_pay101 (iblk m c 5 t) (ix2 r p)
      = Qkv.angle (m ((c : Thread nD τ).loc main_arg5)) (row t r) ⟨p.val % 64, Nat.mod_lt _ (by omega)⟩ := by
  pointwise [k0_pay101, Qkv.angle, row]
  blk_simp [iblk, idx t]
  entry_read
  pointwise
  blk_simp [idx t]
  split <;> blk_ext

/-- The sines a point is given, negated for the first half of a head. -/
theorem sin_at (c : Dev nD) (t : Fin cfg0.N) (r : Fin 512) (p : Fin 128) :
    k0_pay102 (iblk m c 6 t) (ix2 r p)
      = if p.val < 64 then -Qkv.angle (m ((c : Thread nD τ).loc main_arg6)) (row t r) ⟨p.val % 64, Nat.mod_lt _ (by omega)⟩
        else Qkv.angle (m ((c : Thread nD τ).loc main_arg6)) (row t r) ⟨p.val % 64, Nat.mod_lt _ (by omega)⟩ := by
  pointwise [k0_pay102, Qkv.angle, row]
  blk_simp [iblk, idx t]
  entry_read
  pointwise
  blk_simp [idx t]
  split
  · refine congrArg Neg.neg ?_
    blk_ext
  · blk_ext

/-- The scales of the keys and of the values. -/
theorem scales_at (c : Dev nD) (t : Fin cfg0.N) (b : Fin 2) :
    iblk m c 7 t (ix2 0 b) = m ((c : Thread nD τ).loc main_arg7) (ix1 b)
    ∧ iblk m c 7 t (ix2 1 b) = m ((c : Thread nD τ).loc main_arg8) (ix1 b) := by
  constructor
  · blk_simp [iblk, idx t]
    entry_read
    pointwise
    blk_simp [idx t]
    refine (dif_pos Nat.zero_lt_one).trans ?_
    blk_ext [idx t]
  · blk_simp [iblk, idx t]
    entry_read
    pointwise
    blk_simp [idx t]
    refine (dif_neg (Nat.lt_irrefl 1)).trans ?_
    blk_ext [idx t]

/-- A point's block of the linear layer. -/
theorem linear_at (c : Dev nD) (t : Fin cfg0.N) (r u : Fin 512) :
    linear m c t (ix2 r u) = Qkv.out (m ((c : Thread nD τ).loc main_arg0)) (m ((c : Thread nD τ).loc main_arg1))
      (m ((c : Thread nD τ).loc main_arg2)) (m ((c : Thread nD τ).loc main_arg3)) (m ((c : Thread nD τ).loc main_arg4))
      (row t r) (column t u) := by
  refine (product_at _ _ _ _ r u).trans ?_
  pointwise [weights, Qkv.out, lin, wt, row, column]
  blk_point [iblk, V, idx t]

/-- A point's column of the linear layer is a column of a head. -/
theorem column_eq (t : Fin cfg0.N) (u : Fin 512) (h : Fin 20) (p : Fin 128) (e : t.val / 3 * 512 + u.val = 128 * h.val + p.val) :
    column t u = Qkv.col h p :=
  Fin.ext e

/-- A point's block with its heads turned. -/
theorem block_at (c : Dev nD) (t : Fin cfg0.N) (r u : Fin 512) (h : Fin 20) (p : Fin 128)
    (e : t.val / 3 * 512 + u.val = 128 * h.val + p.val) :
    block (linear m c t) (k0_pay101 (iblk m c 5 t)) (k0_pay102 (iblk m c 6 t)) r u
      = Qkv.turned (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (row t r) h p := by
  have hp : (⟨u.val % 128, Nat.mod_lt _ (by omega)⟩ : Fin 128) = p := Fin.ext (by show u.val % 128 = p.val; omega)
  rw [block, hp, linear_at, linear_at, column_eq t u h p e,
    column_eq t ⟨u.val / 128 * 128 + (u.val % 128 + 64) % 128, by omega⟩ h ⟨(p.val + 64) % 128, Nat.mod_lt _ (by omega)⟩
      (by show t.val / 3 * 512 + (u.val / 128 * 128 + (u.val % 128 + 64) % 128) = 128 * h.val + (p.val + 64) % 128; omega)]
  exact Qkv.rotary_eq (fun q => Qkv.out _ _ _ _ _ (row t r) (Qkv.col h q)) (fun q => k0_pay101 (iblk m c 5 t) (ix2 r q))
    (fun q => k0_pay102 (iblk m c 6 t) (ix2 r q)) _ _ p (fun q => cos_at m c t r q) (fun q => sin_at m c t r q)

/-- The kernel's array of turned heads. -/
theorem heads (c : Dev nD) : (dats m 0 c).arrAt 8 (cfgs 0).N
    = Qkv.heads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t _ y => ?_
  blk_simp
  rw [after0_8, out_heads]
  idx_vars y
  have ht : t.val < 15 := t.isLt
  have e : (((View.whole main_v9_0).slice (win0_8.rect t)).emb (ix2 y0 y1) : S1536x2560.Idx) = ix2 (row t y0) (column t y1) := by
    unfold row column
    blk_ext [idx t]
  rw [e]
  exact block_at m c t y0 y1 _ _ (by
    show t.val / 3 * 512 + y1.val = 128 * ((t.val / 3 * 512 + y1.val) / 128) + (t.val / 3 * 512 + y1.val) % 128
    omega)

/-- The keys and the values are written back in the last column block alone. -/
theorem last : ∀ t : Fin cfg0.N, ((cfg0.win 9).flush t = true → 12 ≤ t.val) ∧ ((cfg0.win 10).flush t = true → 12 ≤ t.val) :=
  (by decide +kernel : ∀ t : Fin grid0.N, _)

/-- A scale chosen by the half of 256 columns a column is in. -/
theorem scale_of (x : Fin 2 → EReal) (j : Fin 256) : (if j.val < 128 then x 0 else x 1) = x ⟨j.val / 128, by omega⟩ := by
  by_cases h : j.val < 128
  · rw [if_pos h]
    exact congrArg x (Fin.ext (by show 0 = j.val / 128; omega))
  · rw [if_neg h]
    exact congrArg x (Fin.ext (by show 1 = j.val / 128; omega))

/-- The kernel's array of the codes of the keys. -/
theorem keys (c : Dev nD) : (dats m 0 c).arrAt 9 (cfgs 0).N
    = Qkv.keys (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 9 _ (by decide +kernel) fun t hf y => ?_
  have ht : t.val < 15 := t.isLt
  have h12 := (last t).1 hf
  blk_simp
  rw [after0_9, (out_codes m c t h12).1]
  idx_vars y
  have e : (((View.whole main_v9_1).slice (win0_9.rect t)).emb (ix2 y0 y1) : S1536x256.Idx) = ix2 (row t y0) y1 := by
    unfold row
    blk_ext [(idx t).2.2.2.2.2.2.2.2.2 h12]
  rw [e]
  refine congrArg₂ Qkv.clip (block_at m c t y0 _ _ _ ?_) ?_
  · show t.val / 3 * 512 + y1.val = 128 * (16 + y1.val / 128) + y1.val % 128
    omega
  · rw [(scales_at m c t 0).1, (scales_at m c t 1).1]
    exact scale_of (fun b => m ((c : Thread nD τ).loc main_arg7) (ix1 b)) y1

/-- The kernel's array of the codes of the values. -/
theorem values (c : Dev nD) : (dats m 0 c).arrAt 10 (cfgs 0).N
    = Qkv.values (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg8)) := by
  refine (dats m 0 c).arrAt_eq_of_covers 10 _ (by decide +kernel) fun t hf y => ?_
  have ht : t.val < 15 := t.isLt
  have h12 := (last t).2 hf
  blk_simp
  rw [after0_10, (out_codes m c t h12).2]
  idx_vars y
  have e : (((View.whole main_v9_2).slice (win0_10.rect t)).emb (ix2 y0 y1) : S1536x256.Idx) = ix2 (row t y0) y1 := by
    unfold row
    blk_ext [(idx t).2.2.2.2.2.2.2.2.2 h12]
  rw [e]
  refine congrArg₂ Qkv.clip ((linear_at m c t y0 _).trans (congrArg (Qkv.out _ _ _ _ _ (row t y0)) (column_eq t _ _ _ ?_))) ?_
  · show t.val / 3 * 512 + (256 + y1.val) = 128 * (18 + y1.val / 128) + y1.val % 128
    omega
  · rw [(scales_at m c t 0).2, (scales_at m c t 1).2]
    exact scale_of (fun b => m ((c : Thread nD τ).loc main_arg8) (ix1 b)) y1

end Cert.QkvIdeal.Hand
-- ==== Proof.QkvReference.lean ====
module

public import proofs.«01_k».proof.Defs
public import proofs.«01_k».proof.Proof.Gen.QkvRefIdeal.Value
public import proofs.«01_k».proof.Proof.QkvSpec

@[expose] public section

set_option maxRecDepth 16384
noncomputable section

namespace Cert.QkvRefIdeal.Hand
open Idealize.ShloMosaic Idealize.SL.Sem Cert.QkvRefIdeal Cert.Words
open Cert.QkvRefIdeal.Gen Idealize.ShloMosaic.TcCoe
variable (m : (ℓ : Loc nD τ sig) → Buf (Elt Ideal) ℓ)

/-- The one grid point takes every array whole. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0, 0]
    ∧ win0_6.index t = ![0, 0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, _)

section Layout
variable (v : FVec Ideal S3x512x20x128 .f32) (cos sin : FVec Ideal S3x512x1x64 .f32)

/-- Every head turned, at a point. -/
theorem turned_at (b : Fin 3) (s : Fin 512) (h : Fin 20) (p : Fin 128) :
    k0_pay1 v cos sin (ix4 b s h p)
      = Qkv.rotary (fun q => v (ix4 b s h q)) (fun q => cos (ix4 b s 0 q)) (fun q => sin (ix4 b s 0 q)) p := by
  pointwise [k0_pay1, Qkv.rotary]
  split
  · rw [show (⟨64 + p.val, by omega⟩ : Fin 128) = ⟨p.val + 64, by omega⟩ from Fin.ext (Nat.add_comm _ _)]
  · rw [show (⟨64 + (p.val - 64), by omega⟩ : Fin 128) = p from Fin.ext (by show 64 + (p.val - 64) = p.val; omega)]

/-- The turned heads laid out in rows. -/
theorem heads_at (i : Fin 1536) (j : Fin 2560) :
    k0_pay2 v cos sin (ix2 i j) = k0_pay1 v cos sin (ix4 ⟨i.val / 512, by omega⟩ ⟨i.val % 512, Nat.mod_lt _ (by omega)⟩
      ⟨j.val / 128, by omega⟩ ⟨j.val % 128, Nat.mod_lt _ (by omega)⟩) := by
  unfold k0_pay2
  generalize k0_pay1 v cos sin = w
  pointwise []

/-- The codes of the keys laid out in rows. -/
theorem keys_at (d : FVec Ideal S1x2 .f32) (i : Fin 1536) (j : Fin 256) :
    k0_pay3 d v cos sin (ix2 i j) = Qkv.clip (k0_pay1 v cos sin (ix4 ⟨i.val / 512, by omega⟩ ⟨i.val % 512, Nat.mod_lt _ (by omega)⟩
      ⟨16 + j.val / 128, by omega⟩ ⟨j.val % 128, Nat.mod_lt _ (by omega)⟩)) (d (ix2 0 ⟨j.val / 128, by omega⟩)) := by
  unfold k0_pay3
  generalize k0_pay1 v cos sin = w
  pointwise [Qkv.clip]

/-- The codes of the values laid out in rows. -/
theorem values_at (d : FVec Ideal S1x2 .f32) (i : Fin 1536) (j : Fin 256) :
    k0_pay4 d v (ix2 i j) = Qkv.clip (v (ix4 ⟨i.val / 512, by omega⟩ ⟨i.val % 512, Nat.mod_lt _ (by omega)⟩
      ⟨18 + j.val / 128, by omega⟩ ⟨j.val % 128, Nat.mod_lt _ (by omega)⟩)) (d (ix2 0 ⟨j.val / 128, by omega⟩)) := by
  pointwise [k0_pay4, Qkv.clip]

/-- Rows taken apart into heads. -/
theorem rows_at (x : FVec Ideal S1536x2560 .f32) (i : Fin 1536) (h : Fin 20) (p : Fin 128) (hu : h.val * 128 + p.val < 2560) :
    shapeCast S3x512x20x128 x shapeCasts_S1536x2560_S3x512x20x128
      (ix4 ⟨i.val / 512, by omega⟩ ⟨i.val % 512, Nat.mod_lt _ (by omega)⟩ h p) = x (ix2 i ⟨h.val * 128 + p.val, hu⟩) := by
  pointwise []

end Layout

/-- The plain definition's linear layer, row by row and head by head. -/
theorem out_at (c : Dev nD) (i : Fin 1536) (h : Fin 20) (p : Fin 128) :
    k0_pay17 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0)
      (ix4 ⟨i.val / 512, by omega⟩ ⟨i.val % 512, Nat.mod_lt _ (by omega)⟩ h p)
    = Qkv.out (m ((c : Thread nD τ).loc main_arg0)) (m ((c : Thread nD τ).loc main_arg1)) (m ((c : Thread nD τ).loc main_arg2)) (m
      ((c : Thread nD τ).loc main_arg3)) (m ((c : Thread nD τ).loc main_arg4)) i (Qkv.col h p) := by
  have hu : h.val * 128 + p.val < 2560 := by omega
  have e : Qkv.col h p = ⟨h.val * 128 + p.val, hu⟩ := Fin.ext (congrArg (· + p.val) (Nat.mul_comm 128 h.val))
  rw [e]
  unfold k0_pay17 k0_pay14
  refine (rows_at _ i h p hu).trans ?_
  generalize (⟨h.val * 128 + p.val, hu⟩ : Fin 2560) = u
  unfold_payloads
  pointwise [Qkv.out, lin]
  have sums := sum_fields (P := 1024) (G := 64) (K := 8192) rfl rfl
    (fun k => m ((c : Thread nD τ).loc main_arg0) (ix2 i k)) (m ((c : Thread nD τ).loc main_arg2))
    (m ((c : Thread nD τ).loc main_arg3)) u
  rw [sums]
  · blk_point [iblk, V, idx t0_0]
  · intro x y _ _
    refine congrArg₂ (· * ·) ?_ (congrArg₂ (· * ·) (Eq.trans (plain_field _ _ y.isLt) (congrArg (nib · y.val) ?_)) ?_) <;>
      blk_ext! [iblk, V, idx t0_0]

/-- The plain definition's cosines and sines. -/
theorem angle_at (c : Dev nD) (i : Fin 1536) (q : Fin 64) :
    k0_pay18 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0)
      (ix4 ⟨i.val / 512, by omega⟩ ⟨i.val % 512, Nat.mod_lt _ (by omega)⟩ 0 q) = Qkv.angle (m ((c : Thread nD τ).loc main_arg5)) i q
    ∧ k0_pay19 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0)
      (ix4 ⟨i.val / 512, by omega⟩ ⟨i.val % 512, Nat.mod_lt _ (by omega)⟩ 0 q) = Qkv.angle (m ((c : Thread nD τ).loc main_arg6)) i q := by
  constructor <;> unfold_payloads <;> pointwise [Qkv.angle] <;> blk_point [iblk, V, idx t0_0]

/-- The plain definition's heads, turned. -/
theorem rotated (c : Dev nD) (i : Fin 1536) (h : Fin 20) (p : Fin 128) :
    k0_pay1 (k0_pay17 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0))
      (k0_pay18 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0))
      (k0_pay19 (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0))
      (ix4 ⟨i.val / 512, by omega⟩ ⟨i.val % 512, Nat.mod_lt _ (by omega)⟩ h p)
    = Qkv.turned (m ((c : Thread nD τ).loc main_arg0)) (m ((c : Thread nD τ).loc main_arg1)) (m ((c : Thread nD τ).loc main_arg2)) (m
      ((c : Thread nD τ).loc main_arg3)) (m ((c : Thread nD τ).loc main_arg4)) (m ((c : Thread nD τ).loc main_arg5)) (m
      ((c : Thread nD τ).loc main_arg6)) i h p := by
  rw [turned_at, Qkv.turned]
  refine congr (congr (congrArg Qkv.rotary (funext fun q => out_at m c i h q)) (funext fun q => ?_)) (funext fun q => ?_) |>.symm ▸ rfl
  · exact (angle_at m c i q).1
  · exact (angle_at m c i q).2

/-- The plain definition's array of turned heads. -/
theorem heads (c : Dev nD) : (dats m 0 c).arrAt 9 (cfgs 0).N = Qkv.heads (m ((c : Thread nD τ).loc main_arg0)) (m
      ((c : Thread nD τ).loc main_arg1)) (m ((c : Thread nD τ).loc main_arg2)) (m ((c : Thread nD τ).loc main_arg3)) (m
      ((c : Thread nD τ).loc main_arg4)) (m ((c : Thread nD τ).loc main_arg5)) (m ((c : Thread nD τ).loc main_arg6)) := by
  refine ((dats m 0 c).arrAt_eq_of_after_last 9 t0_0 (by decide +kernel) _ fun j => ?_)
  blk_simp; rw [after0_9]; frame_out
  idx_vars j
  exact (heads_at _ _ _ j0 j1).trans (rotated m c j0 _ _)

/-- The plain definition's array of the codes of the keys. -/
theorem keys (c : Dev nD) : (dats m 0 c).arrAt 10 (cfgs 0).N = Qkv.keys (m ((c : Thread nD τ).loc main_arg0)) (m
      ((c : Thread nD τ).loc main_arg1)) (m ((c : Thread nD τ).loc main_arg2)) (m ((c : Thread nD τ).loc main_arg3)) (m
      ((c : Thread nD τ).loc main_arg4)) (m ((c : Thread nD τ).loc main_arg5)) (m ((c : Thread nD τ).loc main_arg6)) (m
      ((c : Thread nD τ).loc main_arg7)) := by
  refine ((dats m 0 c).arrAt_eq_of_after_last 10 t0_0 (by decide +kernel) _ fun j => ?_)
  blk_simp; rw [after0_10]; frame_out
  idx_vars j
  refine (keys_at _ _ _ _ j0 j1).trans (congrArg₂ Qkv.clip (rotated m c j0 _ _) ?_)
  unfold_payloads
  pointwise
  blk_point [iblk, V, idx t0_0]

/-- The plain definition's array of the codes of the values. -/
theorem values (c : Dev nD) : (dats m 0 c).arrAt 11 (cfgs 0).N = Qkv.values (m ((c : Thread nD τ).loc main_arg0)) (m
      ((c : Thread nD τ).loc main_arg1)) (m ((c : Thread nD τ).loc main_arg2)) (m ((c : Thread nD τ).loc main_arg3)) (m
      ((c : Thread nD τ).loc main_arg4)) (m ((c : Thread nD τ).loc main_arg8)) := by
  refine ((dats m 0 c).arrAt_eq_of_after_last 11 t0_0 (by decide +kernel) _ fun j => ?_)
  blk_simp; rw [after0_11]; frame_out
  idx_vars j
  refine (values_at _ _ j0 j1).trans (congrArg₂ Qkv.clip (out_at m c j0 _ _) ?_)
  unfold_payloads
  pointwise
  blk_point [iblk, V, idx t0_0]

end Cert.QkvRefIdeal.Hand
-- ==== Proof.QkvClaims.lean ====
module

public import proofs.«01_k».proof.Proof.Gen.Qkv.Frame
public import proofs.«01_k».proof.Proof.QkvArrays
public import proofs.«01_k».proof.Proof.QkvReference
public import Idealize.ShloMosaic.Lib.Claim

@[expose] public section

noncomputable section

namespace Cert.QkvClaims
open Idealize.ShloMosaic Idealize.SL.Sem

/-- The printed kernel runs to an end and leaves its arguments and the machine at rest. -/
theorem frame : @Cert.quiescent_Qkv Cert.Qkv.Gen.facts := fun m g _ => Cert.Qkv.Gen.frame m g

/-- So does its idealization. -/
theorem frame_ideal : @Cert.quiescent_QkvIdeal Cert.QkvIdeal.Gen.facts := fun m g _ => Cert.QkvIdeal.Gen.frame m g

/-- So does the plain definition. -/
theorem frame_reference : @Cert.quiescent_QkvRefIdeal Cert.QkvRefIdeal.Gen.facts :=
  fun m g _ => Cert.QkvRefIdeal.Gen.frame m g

set_option maxHeartbeats 2000000 in
/-- Over the extended reals the kernel's three results are the plain definition's. -/
theorem value : @Cert.algebraic_QkvIdeal_QkvRefIdeal Cert.QkvIdeal.Gen.facts Cert.QkvRefIdeal.Gen.facts := by
  pair_intro
  · run_from Cert.QkvIdeal.Gen.run_main m g
  · run_from Cert.QkvRefIdeal.Gen.run_main m' g'
    all_goals obtain ⟨h0, h1, h2, h3, h4, h5, h6, h7, h8⟩ := hagree c
    · refine (Cert.QkvRefIdeal.Hand.heads m' c).trans (Eq.trans ?_ (Cert.QkvIdeal.Hand.heads m c).symm)
      rw [h0, h1, h2, h3, h4, h5, h6]
    · refine (Cert.QkvRefIdeal.Hand.keys m' c).trans (Eq.trans ?_ (Cert.QkvIdeal.Hand.keys m c).symm)
      rw [h0, h1, h2, h3, h4, h5, h6, h7]
    · refine (Cert.QkvRefIdeal.Hand.values m' c).trans (Eq.trans ?_ (Cert.QkvIdeal.Hand.values m c).symm)
      rw [h0, h1, h2, h3, h4, h8]

end Cert.QkvClaims
-- ==== Proof.QuantAttnKernel.lean ====
module

public import proofs.«01_k».proof.Defs
public import proofs.«01_k».proof.Proof.Gen.QuantAttnIdeal.Value
public import proofs.«01_k».proof.Proof.Quant

@[expose] public section

set_option maxRecDepth 16384
noncomputable section

namespace Cert.QuantAttnIdeal.Hand
open Idealize.ShloMosaic Idealize.SL.Sem Cert.QuantAttnIdeal Cert.Quant
open Cert.QuantAttnIdeal.Gen Idealize.ShloMosaic.TcCoe
variable (m : (ℓ : Loc nD τ sig) → Buf (Elt Ideal) ℓ)

/-- Grid point `t` takes row block `t` of every array. -/
theorem idx : ∀ t : Fin cfg0.N, win0_0.index t = ![t.val, 0] ∧ win0_1.index t = ![t.val, 0] ∧ win0_2.index t = ![t.val, 0] :=
  (by decide +kernel : ∀ t : Fin grid0.N, _)

/-- The kernel's maximum over a row's magnitudes. -/
theorem amax_at (x : Vec Ideal S256x2048 .f32) (r : Fin 256) :
    (multiReduction .maximumf [1] S256 (absf x) 0xFF800000#32 reduces_S256x2048_S256 (.inl rfl) rfl : FVec Ideal S256 .f32) (ix1 r)
      = amax fun k => x (ix2 r k) := by
  pointwise [amax]

/-- The scales, given the rows' largest magnitudes `v`. -/
theorem scale_rest (v : FVec Ideal S256 .f32) (r : Fin 256) (z : Fin 1) :
    select (cmpf .ogt (shapeCast S256x1 v shapeCasts_S256_S256x1) (broadcast S256x1 (Scalar.ofBits .f32 0x00000000#32)))
      (divf (shapeCast S256x1 v shapeCasts_S256_S256x1) (broadcast S256x1 (Scalar.ofBits .f32 0x43E00000#32)))
      (broadcast S256x1 (Scalar.ofBits .f32 0x3F800000#32)) (ix2 r z)
    = if 0 < v (ix1 r) then Ideal.div (v (ix1 r)) (Ideal.ofBits .f32 0x43E00000#32) else (1 : EReal) := by
  pointwise []

/-- The scales a block of rows gets. -/
theorem scale_at (x : Vec Ideal S256x2048 .f32) (r : Fin 256) (z : Fin 1) :
    k0_pay1 x (ix2 r z) = scale fun k => x (ix2 r k) := by
  unfold scale
  rw [← amax_at x r]
  exact scale_rest _ r z

/-- The codes, given the rows' scales `s`. -/
theorem code_rest (x : FVec Ideal S256x2048 .f32) (s : FVec Ideal S256x1 .f32) (r : Fin 256) (k : Fin 2048) :
    truncf .fp8e4m3 (minimumf (broadcast S256x2048 (Scalar.ofBits .f32 0x43E00000#32)) (maximumf
      (broadcast S256x2048 (Scalar.ofBits .f32 0xC3E00000#32)) (divf x (broadcastTo S256x2048 s broadcasts_S256x1_S256x2048))))
      bitsLt_fp8e4m3_f32 (ix2 r k)
    = min (Ideal.ofBits .f32 0x43E00000#32) (max (Ideal.ofBits .f32 0xC3E00000#32) (Ideal.div (x (ix2 r k)) (s (ix2 r 0)))) := by
  pointwise []

/-- The codes a block of rows gets. -/
theorem code_at (x : Vec Ideal S256x2048 .f32) (r : Fin 256) (k : Fin 2048) :
    k0_pay2 x (ix2 r k) = code (fun k => x (ix2 r k)) k := by
  unfold code
  rw [← scale_at x r 0]
  exact code_rest x _ r k

/-- The kernel's codes after the run. -/
theorem codes (c : Dev nD) : (dats m 0 c).arrAt 1 (cfgs 0).N
    = fun i => code (fun k => m ((c : Thread nD τ).loc main_arg0) (ix2 (i 0) k)) (i 1) := by
  refine (dats m 0 c).arrAt_eq_of_covers 1 _ (by decide +kernel) fun t _ y => ?_
  blk_simp; rw [after0_1]; frame_out
  idx_vars y
  rw [code_at]
  refine congrArg₂ code (funext fun k => ?_) (Fin.ext ?_)
  · blk_ext [iblk, V, idx t]
  · blk_simp [idx t]

/-- The kernel's scales after the run. -/
theorem scales (c : Dev nD) : (dats m 0 c).arrAt 2 (cfgs 0).N
    = fun i => scale (fun k => m ((c : Thread nD τ).loc main_arg0) (ix2 (i 0) k)) := by
  refine (dats m 0 c).arrAt_eq_of_covers 2 _ (by decide +kernel) fun t _ y => ?_
  blk_simp; rw [after0_2]; frame_out
  idx_vars y
  rw [scale_at]
  exact congrArg scale (funext fun k => by blk_ext [iblk, V, idx t])

end Cert.QuantAttnIdeal.Hand
-- ==== Proof.QuantAttnReference.lean ====
module

public import proofs.«01_k».proof.Defs
public import proofs.«01_k».proof.Proof.Gen.QuantAttnRefIdeal
public import proofs.«01_k».proof.Proof.Quant

@[expose] public section

set_option maxRecDepth 16384
noncomputable section

namespace Cert.QuantAttnRefIdeal.Hand
open Idealize.ShloMosaic Idealize.SL.Sem Cert.QuantAttnRefIdeal Cert.Quant
open Cert.QuantAttnRefIdeal.Gen

/-- The rows' largest magnitudes, as the plain definition takes them. -/
abbrev largest (x : FVec Ideal S1536x2048 .f32) : FVec Ideal S1536 .f32 :=
  Host.reduce FloatOps.maximumf (Host.absf x) (constant S_ .f32 0xFF800000#32) Gen.reducesTo_S1536x2048_S1536_d1 Gen.h_S_

/-- The scales, given the rows' largest magnitudes `v`. -/
abbrev scalesOf (v : FVec Ideal S1536 .f32) : FVec Ideal S1536 .f32 :=
  select (cmpf .ogt v (broadcastInDim S1536 ![] Gen.bcast_S_S1536 (constant S_ .f32 0x00000000#32)))
    (Host.divf v (broadcastInDim S1536 ![] Gen.bcast_S_S1536 (constant S_ .f32 0x43E00000#32)))
    (broadcastInDim S1536 ![] Gen.bcast_S_S1536 (constant S_ .f32 0x3F800000#32))

/-- The codes, given the scales `s`. -/
abbrev codesOf (x : FVec Ideal S1536x2048 .f32) (s : FVec Ideal S1536 .f32) : FVec Ideal S1536x2048 .fp8e4m3 :=
  Host.convertf .fp8e4m3 (minimumf (broadcastInDim S1536x2048 ![] Gen.bcast_S_S1536x2048 (constant S_ .f32 0x43E00000#32))
    (maximumf (broadcastInDim S1536x2048 ![] Gen.bcast_S_S1536x2048 (constant S_ .f32 0xC3E00000#32))
      (Host.divf x (broadcastInDim S1536x2048 ![0, 1] Gen.bcast_S1536x1_S1536x2048_0_1
        (broadcastInDim S1536x1 ![0] Gen.bcast_S1536_S1536x1_0 s)))))

/-- A row's largest magnitude. -/
theorem largest_at (x : FVec Ideal S1536x2048 .f32) (r : Fin 1536) : largest x (ix1 r) = amax fun k => x (ix2 r k) := by
  pointwise [amax]

/-- A row's scale, given the largest magnitudes. -/
theorem scale_rest (v : FVec Ideal S1536 .f32) (r : Fin 1536) :
    scalesOf v (ix1 r) = if 0 < v (ix1 r) then Ideal.div (v (ix1 r)) (Ideal.ofBits .f32 0x43E00000#32) else (1 : EReal) := by
  pointwise []

/-- A row's scale. -/
theorem scale_at (x : FVec Ideal S1536x2048 .f32) (r : Fin 1536) :
    scalesOf (largest x) (ix1 r) = scale fun k => x (ix2 r k) := by
  unfold scale
  rw [← largest_at x r]
  exact scale_rest _ r

/-- A column of scales holds each row's scale. -/
theorem column_at (s : FVec Ideal S1536 .f32) (r : Fin 1536) (z : Fin 1) :
    shapeCast S1536x1 s Gen.shapeCasts_S1536_S1536x1 (ix2 r z) = s (ix1 r) := by
  pointwise []

/-- A code, given the scales. -/
theorem code_rest (x : FVec Ideal S1536x2048 .f32) (s : FVec Ideal S1536 .f32) (r : Fin 1536) (k : Fin 2048) :
    codesOf x s (ix2 r k)
    = min (Ideal.ofBits .f32 0x43E00000#32) (max (Ideal.ofBits .f32 0xC3E00000#32) (Ideal.div (x (ix2 r k)) (s (ix1 r)))) := by
  pointwise []

/-- The plain definition's codes. -/
theorem codes (x : FVec Ideal S1536x2048 .f32) : codesOf x (scalesOf (largest x)) = fun i => code (fun k => x (ix2 (i 0) k)) (i 1) := by
  funext i
  idx_vars i
  unfold code
  refine (code_rest x _ _ _).trans ?_
  rw [scale_at]

/-- The plain definition's scales. -/
theorem scales (x : FVec Ideal S1536x2048 .f32) :
    shapeCast S1536x1 (scalesOf (largest x)) Gen.shapeCasts_S1536_S1536x1 = fun i => scale fun k => x (ix2 (i 0) k) := by
  funext i
  idx_vars i
  exact (column_at _ _ _).trans (scale_at x _)

end Cert.QuantAttnRefIdeal.Hand
-- ==== Proof.QuantAttnClaims.lean ====
module

public import proofs.«01_k».proof.Defs
public import proofs.«01_k».proof.Proof.Gen.QuantAttn.Frame
public import proofs.«01_k».proof.Proof.Gen.QuantAttnIdeal.Frame
public import proofs.«01_k».proof.Proof.Gen.QuantAttnRefIdeal
public import proofs.«01_k».proof.Proof.QuantAttnKernel
public import proofs.«01_k».proof.Proof.QuantAttnReference

@[expose] public section

set_option maxRecDepth 16384
noncomputable section

namespace Cert.QuantAttnClaims
open Idealize.ShloMosaic Idealize.SL.Sem Cert.Quant

/-- The printed call runs, keeps its argument and ends quiet. -/
theorem frame : @Cert.quiescent_QuantAttn Cert.QuantAttn.Gen.facts := fun m g _ => Cert.QuantAttn.Gen.frame m g

/-- So does its idealization. -/
theorem frame_ideal : @Cert.quiescent_QuantAttnIdeal Cert.QuantAttnIdeal.Gen.facts := fun m g _ => Cert.QuantAttnIdeal.Gen.frame m g

/-- So does the plain definition. -/
theorem frame_reference : @Cert.quiescent_QuantAttnRefIdeal Cert.QuantAttnRefIdeal.Gen.facts := by
  intro m g _
  hlo_run
  · exact fun _ => trivial
  · exact sem_eq_zero_of_no_sems (by decide) r.2

/-- The idealized call's codes and scales are the plain definition's. -/
theorem value : @Cert.algebraic_QuantAttnIdeal_QuantAttnRefIdeal Cert.QuantAttnIdeal.Gen.facts Cert.QuantAttnRefIdeal.Gen.facts := by
  pair_intro
  · run_from Cert.QuantAttnIdeal.Gen.run_main m g
  · hlo_run
    all_goals simp -implicitDefEqProofs only [StableHlo.TRef.toBuf, StableHlo.TRef.ofBuf, cast_cast, cast_eq]
    · exact (Cert.QuantAttnRefIdeal.Hand.codes _).trans (Cert.QuantAttnIdeal.Hand.codes m c).symm
    · exact (Cert.QuantAttnRefIdeal.Hand.scales _).trans (Cert.QuantAttnIdeal.Hand.scales m c).symm
end Cert.QuantAttnClaims
-- ==== Proof.OProjKernel.lean ====
module

public import proofs.«01_k».proof.Defs
public import proofs.«01_k».proof.Proof.Gen.OProjIdeal.Value
public import proofs.«01_k».proof.Proof.Words

@[expose] public section

set_option maxRecDepth 16384
noncomputable section

namespace Cert.OProjIdeal.Hand
open Idealize.ShloMosaic Idealize.SL.Sem Cert.OProjIdeal Cert.Words
open Cert.OProjIdeal.Gen Idealize.ShloMosaic.TcCoe
variable (m : (ℓ : Loc nD τ sig) → Buf (Elt Ideal) ℓ)

/-- Grid point `t` works on row block `t % 3` and column block `t / 3`. -/
theorem idx : ∀ t : Fin cfg0.N, win0_0.index t = ![t.val % 3, 0] ∧ win0_1.index t = ![t.val % 3, 0]
    ∧ win0_2.index t = ![0, t.val / 3] ∧ win0_3.index t = ![0, t.val / 3] ∧ win0_4.index t = ![0, t.val / 3]
    ∧ win0_5.index t = ![t.val % 3, t.val / 3] ∧ win0_6.index t = ![t.val % 3, t.val / 3] :=
  (by decide +kernel : ∀ t : Fin grid0.N, _)

/-- One group of weights, unpacked: fields times scales. -/
theorem unpack (w : Vec Ideal S16x512 .i32) (s : Vec Ideal S1x512 .fp8e4m3) (x : S128x512.Idx) :
    k0_pay3 w s x = nib (w (ix2 ⟨(x 0).val / 8, by have := (x 0).isLt; simp at this; omega⟩ (x 1))) ((x 0).val % 8)
      * s (ix2 0 (x 1)) := by
  unfold_payloads
  pointwise
  rw [kernel_field _ _ (Nat.mod_lt _ (by omega))]

/-- A group of weights stored at rows `o …` is those rows of the weights. -/
theorem unpack_at (w : Vec Ideal S256x512 .i32) (s : Vec Ideal S16x512 .fp8e4m3) (a b o : ℕ) (pa) (pb) (x : S128x512.Idx)
    (y : S2048x512.Idx) (ha : a = 16 * b) (ho : o = 128 * b) (h0 : (y 0).val = o + (x 0).val) (h1 : (y 1).val = 0 + (x 1).val) :
    k0_pay3 (View.ld w (Rect.unit (s := S256x512) ![a, 0] ![16, 512] pa)) (View.ld s (Rect.unit (s := S16x512) ![b, 0] ![1, 512] pb)) x
      = wt (P := 256) (G := 16) (K := 2048) rfl rfl w s (y 0) (y 1) := by
  rw [unpack, ← piece (P := 256) (G := 16) (K := 2048) rfl rfl w s a b pa pb (x 0) (y 1) (y 0) (by omega) ha]
  have e : x 1 = y 1 := Fin.ext (by omega)
  rw [e]

/-- Where a column block begins, the scratch takes its unpacked weights. -/
theorem scr_A (c : Dev nD) (t : Fin cfg0.N) (h : t.val % 3 = 0) :
    (outsAt0 m c t.val t.isLt).2 = fun y => wt (P := 256) (G := 16) (K := 2048) rfl rfl (iblk m c 2 t) (iblk m c 3 t) (y 0) (y 1) := by
  funext y
  rw [outsAt0_A m c t h]
  frame_out
  canon_tiles x h
  all_goals exact unpack_at (iblk m c 2 t) (iblk m c 3 t) _ _ _ _ _ x y rfl rfl (by omega) (by omega)

/-- Points of one column block read the same words and the same scales. -/
theorem same_words (c : Dev nD) (n : ℕ) (hn : n + 1 < cfg0.N) (h : ¬(n + 1) % 3 = 0) :
    iblk m c 2 ⟨n, by omega⟩ = iblk m c 2 ⟨n + 1, hn⟩ ∧ iblk m c 3 ⟨n, by omega⟩ = iblk m c 3 ⟨n + 1, hn⟩ := by
  have e : n / 3 = (n + 1) / 3 := by omega
  obtain ⟨-, -, a2, a3, -⟩ := idx ⟨n, by omega⟩
  obtain ⟨-, -, b2, b3, -⟩ := idx ⟨n + 1, hn⟩
  constructor <;> funext y <;> blk_ext! [iblk, V, a2, b2, a3, b3, e]

/-- The scratch holds the unpacked weights of the point's column block. -/
theorem scr (c : Dev nD) (n : ℕ) (hn : n < cfg0.N) :
    (outsAt0 m c n hn).2
      = fun y => wt (P := 256) (G := 16) (K := 2048) rfl rfl (iblk m c 2 ⟨n, hn⟩) (iblk m c 3 ⟨n, hn⟩) (y 0) (y 1) := by
  induction n with
  | zero => exact scr_A m c ⟨0, hn⟩ rfl
  | succ n ih =>
    by_cases h : (n + 1) % 3 = 0
    · exact scr_A m c ⟨n + 1, hn⟩ h
    · rw [outsAt0_B m c ⟨n + 1, hn⟩ h]
      obtain ⟨e2, e3⟩ := same_words m c n hn h
      rw [← e2, ← e3]
      exact ih _

/-- One output block: the linear layer of the blocks added to the residual's. -/
def blockOf (a : Vec Ideal S512x2048 .fp8e4m3) (s : Vec Ideal S512x1 .f32) (w : Vec Ideal S256x512 .i32)
    (g : Vec Ideal S16x512 .fp8e4m3) (c : Vec Ideal S1x512 .f32) (r : Vec Ideal S512x512 .bf16) : Vec Ideal S512x512 .f32 :=
  fun y => r y + lin (P := 256) (G := 16) (K := 2048) rfl rfl a s w g (fun j => c (ix2 0 j)) (y 0) (y 1)

/-- The matrix product's payload, its weights the unpacked ones. -/
theorem product (a : Vec Ideal S512x2048 .fp8e4m3) (s : Vec Ideal S512x1 .f32) (w : Vec Ideal S256x512 .i32)
    (g : Vec Ideal S16x512 .fp8e4m3) (c : Vec Ideal S1x512 .f32) (r : Vec Ideal S512x512 .bf16) (W : Vec Ideal S2048x512 .bf16)
    (hW : W = fun y => wt (P := 256) (G := 16) (K := 2048) rfl rfl w g (y 0) (y 1)) :
    k0_pay2 a W r s c = blockOf a s w g c r := by
  subst hW
  funext y
  pointwise [k0_pay2, blockOf, lin]

theorem out_A (c : Dev nD) (t : Fin cfg0.N) (h : t.val % 3 = 0) :
    (outsAt0 m c t.val t.isLt).1 = blockOf (iblk m c 0 t) (iblk m c 1 t) (iblk m c 2 t) (iblk m c 3 t) (iblk m c 4 t) (iblk m c 5 t) := by
  have hs := scr_A m c t h
  rw [outsAt0_A m c t h] at hs ⊢
  dsimp only at hs ⊢
  refine Eq.trans ?_ (product _ _ _ _ _ _ _ hs)
  frame_out
  refine congrArg (fun z => k0_pay2 _ z _ _ _) ?_
  exact readCov_whole _ _ _ (by decide)

theorem out_B (c : Dev nD) (t : Fin cfg0.N) (h : ¬t.val % 3 = 0) :
    (outsAt0 m c t.val t.isLt).1 = blockOf (iblk m c 0 t) (iblk m c 1 t) (iblk m c 2 t) (iblk m c 3 t) (iblk m c 4 t) (iblk m c 5 t) := by
  have hs := scr m c t.val t.isLt
  rw [outsAt0_B m c t h] at hs ⊢
  dsimp only at hs ⊢
  refine Eq.trans ?_ (product _ _ _ _ _ _ _ hs)
  frame_out
  refine congrArg (fun z => k0_pay2 _ z _ _ _) ?_
  exact Memref.IsWhole.read_unread _ _

/-- Every grid point leaves the block of its inputs. -/
theorem out (c : Dev nD) (t : Fin cfg0.N) :
    (outsAt0 m c t.val t.isLt).1 = blockOf (iblk m c 0 t) (iblk m c 1 t) (iblk m c 2 t) (iblk m c 3 t) (iblk m c 4 t) (iblk m c 5 t) := by
  by_cases h : t.val % 3 = 0
  · exact out_A m c t h
  · exact out_B m c t h

/-- The kernel's result array: the output projection of its arguments. -/
theorem final (c : Dev nD) : (dats m 0 c).arrAt 6 (cfgs 0).N
    = oProj (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out]
  pointwise [blockOf, oProj, lin, wt]
  blk_point [iblk, V, idx t]
end Cert.OProjIdeal.Hand
-- ==== Proof.OProjReference.lean ====
module

public import proofs.«01_k».proof.Defs
public import proofs.«01_k».proof.Proof.Gen.OProjRefIdeal.Value
public import proofs.«01_k».proof.Proof.Words

@[expose] public section

set_option maxRecDepth 16384
noncomputable section

namespace Cert.OProjRefIdeal.Hand
open Idealize.ShloMosaic Idealize.SL.Sem Cert.OProjRefIdeal Cert.Words
open Cert.OProjRefIdeal.Gen Idealize.ShloMosaic.TcCoe
variable (m : (ℓ : Loc nD τ sig) → Buf (Elt Ideal) ℓ)

/-- The one grid point takes every array whole. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The plain definition's result array: the output projection of its arguments. -/
theorem final (c : Dev nD) : (dats m 0 c).arrAt 6 (cfgs 0).N
    = oProj (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((dats m 0 c).arrAt_eq_of_after_last 6 t0_0 (by decide +kernel) _ fun j => ?_)
  blk_simp; rw [after0_6]; frame_out
  unfold_payloads
  pointwise [oProj, lin]
  rw [sum_fields (P := 256) (G := 16) (K := 2048) rfl rfl (fun k => m ((c : Thread nD τ).loc main_arg0) (ix2 (j 0) k))
    (m ((c : Thread nD τ).loc main_arg2)) (m ((c : Thread nD τ).loc main_arg3)) (j 1)]
  · blk_point [iblk, V, idx t0_0]
  · intro x y _ _
    refine congrArg₂ (· * ·) ?_ (congrArg₂ (· * ·) (Eq.trans (plain_field _ _ y.isLt) (congrArg (nib · y.val) ?_)) ?_) <;>
      blk_ext! [iblk, V, idx t0_0]

end Cert.OProjRefIdeal.Hand
-- ==== Proof.OProjClaims.lean ====
module

public import proofs.«01_k».proof.Proof.Gen.OProj.Frame
public import proofs.«01_k».proof.Proof.OProjKernel
public import proofs.«01_k».proof.Proof.OProjReference
public import Idealize.ShloMosaic.Lib.Claim

@[expose] public section

noncomputable section

namespace Cert.OProjClaims
open Idealize.ShloMosaic Idealize.SL.Sem

/-- The printed kernel runs to an end and leaves its arguments and the machine at rest. -/
theorem frame : @Cert.quiescent_OProj Cert.OProj.Gen.facts := fun m g _ => Cert.OProj.Gen.frame m g

/-- So does its idealization. -/
theorem frame_ideal : @Cert.quiescent_OProjIdeal Cert.OProjIdeal.Gen.facts := fun m g _ => Cert.OProjIdeal.Gen.frame m g

/-- So does the plain definition. -/
theorem frame_reference : @Cert.quiescent_OProjRefIdeal Cert.OProjRefIdeal.Gen.facts :=
  fun m g _ => Cert.OProjRefIdeal.Gen.frame m g

/-- Over the extended reals the kernel's result is the plain definition's. -/
theorem value : @Cert.algebraic_OProjIdeal_OProjRefIdeal Cert.OProjIdeal.Gen.facts Cert.OProjRefIdeal.Gen.facts := by
  pair_intro
  · run_from Cert.OProjIdeal.Gen.run_main m g
  · run_from Cert.OProjRefIdeal.Gen.run_main m' g'
    obtain ⟨h0, h1, h2, h3, h4, h5⟩ := hagree c
    refine (Cert.OProjRefIdeal.Hand.final m' c).trans (Eq.trans ?_ (Cert.OProjIdeal.Hand.final m c).symm)
    rw [h0, h1, h2, h3, h4, h5]

end Cert.OProjClaims
-- ==== Proof.NormQuantHKernel.lean ====
module

public import proofs.«01_k».proof.Defs
public import proofs.«01_k».proof.Proof.Gen.NormQuantHIdeal.Value
public import proofs.«01_k».proof.Proof.Quant

@[expose] public section

set_option maxRecDepth 16384
noncomputable section

namespace Cert.NormQuantHIdeal.Hand
open Idealize.ShloMosaic Idealize.SL.Sem Cert.NormQuantHIdeal Cert.Quant
open Cert.NormQuantHIdeal.Gen Idealize.ShloMosaic.TcCoe
variable (m : (ℓ : Loc nD τ sig) → Buf (Elt Ideal) ℓ)

/-- Grid point `t` takes row block `t` of every array, and the gain whole. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The normed rows, given the rows' sums of squares `v`. -/
theorem norm_rest (x : FVec Ideal S128x8192 .f32) (v : FVec Ideal S128 .f32) (g : FVec Ideal S1x8192 .f32) (r : Fin 128) (k : Fin 8192) :
    mulf (divf x (broadcastTo S128x8192 (sqrt (addf
        (divf (shapeCast S128x1 v shapeCasts_S128_S128x1) (broadcast S128x1 (Scalar.ofBits .f32 0x46000000#32)))
        (broadcast S128x1 (Scalar.ofBits .f32 0x3727C5AC#32)))) broadcasts_S128x1_S128x8192))
      (broadcastTo S128x8192 (shapeCast S1x8192 g shapeCasts_S1x8192_S1x8192) broadcasts_S1x8192_S128x8192) (ix2 r k)
    = Ideal.div (x (ix2 r k)) (Ideal.sqrt (Ideal.div (v (ix1 r)) (Ideal.ofBits .f32 0x46000000#32) + Ideal.ofBits .f32 0x3727C5AC#32))
      * g (ix2 0 k) := by
  pointwise []

/-- A row's sum of squares. -/
theorem squares_at (x : FVec Ideal S128x8192 .f32) (r : Fin 128) :
    (multiReduction .add [1] S128 (mulf x x) 0x00000000#32
      reduces_S128x8192_S128 (.inl rfl) rfl : FVec Ideal S128 .f32) (ix1 r) = ∑ k, x (ix2 r k) * x (ix2 r k) := by
  pointwise []

/-- The normed rows of a block. -/
theorem norm_at (x : Vec Ideal S128x8192 .f32) (g : Vec Ideal S1x8192 .f32) (r : Fin 128) (k : Fin 8192) :
    k0_pay1 x g (ix2 r k) = norm (fun k => x (ix2 r k)) (fun k => g (ix2 0 k)) k := by
  refine (norm_rest x _ g r k).trans ?_
  rw [squares_at]
  rfl

/-- The kernel's maximum over a row's magnitudes. -/
theorem amax_at (x : Vec Ideal S128x8192 .f32) (r : Fin 128) :
    (multiReduction .maximumf [1] S128 (absf x) 0xFF800000#32 reduces_S128x8192_S128 (.inl rfl) rfl : FVec Ideal S128 .f32) (ix1 r)
      = amax fun k => x (ix2 r k) := by
  pointwise [amax]

/-- The scales, given the rows' largest magnitudes `v`. -/
theorem scale_rest (v : FVec Ideal S128 .f32) (r : Fin 128) (z : Fin 1) :
    select (cmpf .ogt (shapeCast S128x1 v shapeCasts_S128_S128x1) (broadcast S128x1 (Scalar.ofBits .f32 0x00000000#32)))
      (divf (shapeCast S128x1 v shapeCasts_S128_S128x1) (broadcast S128x1 (Scalar.ofBits .f32 0x43E00000#32)))
      (broadcast S128x1 (Scalar.ofBits .f32 0x3F800000#32)) (ix2 r z)
    = if 0 < v (ix1 r) then Ideal.div (v (ix1 r)) (Ideal.ofBits .f32 0x43E00000#32) else (1 : EReal) := by
  pointwise []

/-- The scales a block of rows gets. -/
theorem scale_at (x : Vec Ideal S128x8192 .f32) (g : Vec Ideal S1x8192 .f32) (r : Fin 128) (z : Fin 1) :
    k0_pay2 x g (ix2 r z) = scale (norm (fun k => x (ix2 r k)) fun k => g (ix2 0 k)) := by
  rw [← funext (norm_at x g r)]
  unfold scale
  rw [← amax_at (k0_pay1 x g) r]
  exact scale_rest _ r z

/-- The codes, given the rows' scales `s`. -/
theorem code_rest (x : FVec Ideal S128x8192 .f32) (s : FVec Ideal S128x1 .f32) (r : Fin 128) (k : Fin 8192) :
    truncf .fp8e4m3 (minimumf (broadcast S128x8192 (Scalar.ofBits .f32 0x43E00000#32)) (maximumf
      (broadcast S128x8192 (Scalar.ofBits .f32 0xC3E00000#32)) (divf x (broadcastTo S128x8192 s broadcasts_S128x1_S128x8192))))
      bitsLt_fp8e4m3_f32 (ix2 r k)
    = min (Ideal.ofBits .f32 0x43E00000#32) (max (Ideal.ofBits .f32 0xC3E00000#32) (Ideal.div (x (ix2 r k)) (s (ix2 r 0)))) := by
  pointwise []

/-- The codes a block of rows gets. -/
theorem code_at (x : Vec Ideal S128x8192 .f32) (g : Vec Ideal S1x8192 .f32) (r : Fin 128) (k : Fin 8192) :
    k0_pay3 x g (ix2 r k) = code (norm (fun k => x (ix2 r k)) fun k => g (ix2 0 k)) k := by
  unfold code
  rw [← scale_at x g r 0, ← norm_at x g r k]
  exact code_rest (k0_pay1 x g) _ r k

/-- Row `r` of the normed residual stream. -/
abbrev row (c : Dev nD) (r : Fin 1536) : Fin 8192 → EReal :=
  norm (fun k => m ((c : Thread nD τ).loc main_arg0) (ix2 r k)) fun k => m ((c : Thread nD τ).loc main_arg1) (ix1 k)

/-- The kernel's codes after the run. -/
theorem codes (c : Dev nD) : (dats m 0 c).arrAt 2 (cfgs 0).N = fun i => code (row m c (i 0)) (i 1) := by
  refine (dats m 0 c).arrAt_eq_of_covers 2 _ (by decide +kernel) fun t _ y => ?_
  blk_simp; rw [after0_2]; frame_out
  idx_vars y
  rw [code_at]
  refine congrArg₂ code (congrArg₂ norm (funext fun k => ?_) (funext fun k => ?_)) (Fin.ext ?_)
  · blk_ext [iblk, V, idx t]
  · blk_point [iblk, V, idx t]
  · blk_simp [idx t]

/-- The kernel's scales after the run. -/
theorem scales (c : Dev nD) : (dats m 0 c).arrAt 3 (cfgs 0).N = fun i => scale (row m c (i 0)) := by
  refine (dats m 0 c).arrAt_eq_of_covers 3 _ (by decide +kernel) fun t _ y => ?_
  blk_simp; rw [after0_3]; frame_out
  idx_vars y
  rw [scale_at]
  refine congrArg scale (congrArg₂ norm (funext fun k => ?_) (funext fun k => ?_))
  · blk_ext [iblk, V, idx t]
  · blk_point [iblk, V, idx t]

end Cert.NormQuantHIdeal.Hand
-- ==== Proof.NormQuantHReference.lean ====
module

public import proofs.«01_k».proof.Defs
public import proofs.«01_k».proof.Proof.Gen.NormQuantHRefIdeal
public import proofs.«01_k».proof.Proof.Quant

@[expose] public section

set_option maxRecDepth 16384
noncomputable section

namespace Cert.NormQuantHRefIdeal.Hand
open Idealize.ShloMosaic Idealize.SL.Sem Cert.NormQuantHRefIdeal Cert.Quant
open Cert.NormQuantHRefIdeal.Gen

/-- The rows' sums of squares, as the plain definition takes them. -/
abbrev squares (x : FVec Ideal S1536x8192 .f32) : FVec Ideal S1536 .f32 :=
  Host.reduceAdd (mulf x x) (constant S_ .f32 0x00000000#32)
    Gen.reducesTo_S1536x8192_S1536_d1 Gen.h_S_

/-- The normed rows, given the sums of squares `v`. -/
abbrev normOf (x : FVec Ideal S1536x8192 .f32) (v : FVec Ideal S1536 .f32) (g : FVec Ideal S8192 .f32) : FVec Ideal S1536x8192 .f32 :=
  mulf (Host.divf x (broadcastInDim S1536x8192 ![0, 1] Gen.bcast_S1536x1_S1536x8192_0_1
      (Host.sqrt (addf (Host.divf (broadcastInDim S1536x1 ![0] Gen.bcast_S1536_S1536x1_0 v)
          (broadcastInDim S1536x1 ![] Gen.bcast_S_S1536x1 (constant S_ .f32 0x46000000#32)))
        (broadcastInDim S1536x1 ![] Gen.bcast_S_S1536x1 (constant S_ .f32 0x3727C5AC#32))))))
    (broadcastInDim S1536x8192 ![0, 1] Gen.bcast_S1x8192_S1536x8192_0_1 (broadcastInDim S1x8192 ![1] Gen.bcast_S8192_S1x8192_1 g))

/-- A row's sum of squares. -/
theorem squares_at (x : FVec Ideal S1536x8192 .f32) (r : Fin 1536) : squares x (ix1 r) = ∑ k, x (ix2 r k) * x (ix2 r k) := by
  pointwise []

/-- A normed element, given the sums of squares. -/
theorem norm_rest (x : FVec Ideal S1536x8192 .f32) (v : FVec Ideal S1536 .f32) (g : FVec Ideal S8192 .f32) (r : Fin 1536) (k : Fin 8192) :
    normOf x v g (ix2 r k)
    = Ideal.div (x (ix2 r k)) (Ideal.sqrt (Ideal.div (v (ix1 r)) (Ideal.ofBits .f32 0x46000000#32) + Ideal.ofBits .f32 0x3727C5AC#32))
      * g (ix1 k) := by
  pointwise []

/-- The normed rows. -/
theorem norm_at (x : FVec Ideal S1536x8192 .f32) (g : FVec Ideal S8192 .f32) (r : Fin 1536) :
    (fun k => normOf x (squares x) g (ix2 r k)) = norm (fun k => x (ix2 r k)) fun k => g (ix1 k) := by
  funext k
  refine (norm_rest x _ g r k).trans ?_
  rw [squares_at]
  rfl

/-- The rows' largest magnitudes, as the plain definition takes them. -/
abbrev largest (x : FVec Ideal S1536x8192 .f32) : FVec Ideal S1536 .f32 :=
  Host.reduce FloatOps.maximumf (Host.absf x) (constant S_ .f32 0xFF800000#32) Gen.reducesTo_S1536x8192_S1536_d1 Gen.h_S_

/-- The scales, given the rows' largest magnitudes `v`. -/
abbrev scalesOf (v : FVec Ideal S1536 .f32) : FVec Ideal S1536 .f32 :=
  select (cmpf .ogt v (broadcastInDim S1536 ![] Gen.bcast_S_S1536 (constant S_ .f32 0x00000000#32)))
    (Host.divf v (broadcastInDim S1536 ![] Gen.bcast_S_S1536 (constant S_ .f32 0x43E00000#32)))
    (broadcastInDim S1536 ![] Gen.bcast_S_S1536 (constant S_ .f32 0x3F800000#32))

/-- The codes, given the scales `s`. -/
abbrev codesOf (x : FVec Ideal S1536x8192 .f32) (s : FVec Ideal S1536 .f32) : FVec Ideal S1536x8192 .fp8e4m3 :=
  Host.convertf .fp8e4m3 (minimumf (broadcastInDim S1536x8192 ![] Gen.bcast_S_S1536x8192 (constant S_ .f32 0x43E00000#32))
    (maximumf (broadcastInDim S1536x8192 ![] Gen.bcast_S_S1536x8192 (constant S_ .f32 0xC3E00000#32))
      (Host.divf x (broadcastInDim S1536x8192 ![0, 1] Gen.bcast_S1536x1_S1536x8192_0_1
        (broadcastInDim S1536x1 ![0] Gen.bcast_S1536_S1536x1_0 s)))))

/-- A row's largest magnitude. -/
theorem largest_at (x : FVec Ideal S1536x8192 .f32) (r : Fin 1536) : largest x (ix1 r) = amax fun k => x (ix2 r k) := by
  pointwise [amax]

/-- A row's scale, given the largest magnitudes. -/
theorem scale_rest (v : FVec Ideal S1536 .f32) (r : Fin 1536) :
    scalesOf v (ix1 r) = if 0 < v (ix1 r) then Ideal.div (v (ix1 r)) (Ideal.ofBits .f32 0x43E00000#32) else (1 : EReal) := by
  pointwise []

/-- A row's scale. -/
theorem scale_at (x : FVec Ideal S1536x8192 .f32) (r : Fin 1536) :
    scalesOf (largest x) (ix1 r) = scale fun k => x (ix2 r k) := by
  unfold scale
  rw [← largest_at x r]
  exact scale_rest _ r

/-- A column of scales holds each row's scale. -/
theorem column_at (s : FVec Ideal S1536 .f32) (r : Fin 1536) (z : Fin 1) :
    shapeCast S1536x1 s Gen.shapeCasts_S1536_S1536x1 (ix2 r z) = s (ix1 r) := by
  pointwise []

/-- A code, given the scales. -/
theorem code_rest (x : FVec Ideal S1536x8192 .f32) (s : FVec Ideal S1536 .f32) (r : Fin 1536) (k : Fin 8192) :
    codesOf x s (ix2 r k)
    = min (Ideal.ofBits .f32 0x43E00000#32) (max (Ideal.ofBits .f32 0xC3E00000#32) (Ideal.div (x (ix2 r k)) (s (ix1 r)))) := by
  pointwise []

/-- The plain definition's codes. -/
theorem codes (x : FVec Ideal S1536x8192 .f32) (g : FVec Ideal S8192 .f32) :
    codesOf (normOf x (squares x) g) (scalesOf (largest (normOf x (squares x) g)))
    = fun i => code (norm (fun k => x (ix2 (i 0) k)) fun k => g (ix1 k)) (i 1) := by
  funext i
  idx_vars i
  unfold code
  refine (code_rest (normOf x (squares x) g) _ _ _).trans ?_
  rw [scale_at, norm_at, ← norm_at x g i0]

/-- The plain definition's scales. -/
theorem scales (x : FVec Ideal S1536x8192 .f32) (g : FVec Ideal S8192 .f32) :
    shapeCast S1536x1 (scalesOf (largest (normOf x (squares x) g))) Gen.shapeCasts_S1536_S1536x1
    = fun i => scale (norm (fun k => x (ix2 (i 0) k)) fun k => g (ix1 k)) := by
  funext i
  idx_vars i
  exact (column_at _ _ _).trans ((scale_at _ _).trans (congrArg scale (norm_at x g _)))

end Cert.NormQuantHRefIdeal.Hand
-- ==== Proof.NormQuantHClaims.lean ====
module

public import proofs.«01_k».proof.Defs
public import proofs.«01_k».proof.Proof.Gen.NormQuantH.Frame
public import proofs.«01_k».proof.Proof.Gen.NormQuantHIdeal.Frame
public import proofs.«01_k».proof.Proof.Gen.NormQuantHRefIdeal
public import proofs.«01_k».proof.Proof.NormQuantHKernel
public import proofs.«01_k».proof.Proof.NormQuantHReference

@[expose] public section

set_option maxRecDepth 16384
noncomputable section

namespace Cert.NormQuantHClaims
open Idealize.ShloMosaic Idealize.SL.Sem Cert.Quant

/-- The printed call runs, keeps its arguments and ends quiet. -/
theorem frame : @Cert.quiescent_NormQuantH Cert.NormQuantH.Gen.facts := fun m g _ => Cert.NormQuantH.Gen.frame m g

/-- So does its idealization. -/
theorem frame_ideal : @Cert.quiescent_NormQuantHIdeal Cert.NormQuantHIdeal.Gen.facts := fun m g _ => Cert.NormQuantHIdeal.Gen.frame m g

/-- So does the plain definition. -/
theorem frame_reference : @Cert.quiescent_NormQuantHRefIdeal Cert.NormQuantHRefIdeal.Gen.facts := by
  intro m g _
  hlo_run
  · exact fun _ => ⟨trivial, trivial⟩
  · exact sem_eq_zero_of_no_sems (by decide) r.2

/-- The idealized call's codes and scales are the plain definition's. -/
theorem value : @Cert.algebraic_NormQuantHIdeal_NormQuantHRefIdeal Cert.NormQuantHIdeal.Gen.facts Cert.NormQuantHRefIdeal.Gen.facts := by
  pair_intro
  · run_from Cert.NormQuantHIdeal.Gen.run_main m g
  · hlo_run
    all_goals simp -implicitDefEqProofs only [StableHlo.TRef.toBuf, StableHlo.TRef.ofBuf, cast_cast, cast_eq]
    · exact (Cert.NormQuantHRefIdeal.Hand.codes _ _).trans (Cert.NormQuantHIdeal.Hand.codes m c).symm
    · exact (Cert.NormQuantHRefIdeal.Hand.scales _ _).trans (Cert.NormQuantHIdeal.Hand.scales m c).symm
end Cert.NormQuantHClaims
-- ==== Proof.GateUpKernel.lean ====
module

public import proofs.«01_k».proof.Defs
public import proofs.«01_k».proof.Proof.Gen.GateUpIdeal.Value
public import proofs.«01_k».proof.Proof.Words

@[expose] public section

set_option maxRecDepth 16384
noncomputable section

namespace Cert.GateUpIdeal.Hand
open Idealize.ShloMosaic Idealize.SL.Sem Cert.GateUpIdeal Cert.Words
open Cert.GateUpIdeal.Gen Idealize.ShloMosaic.TcCoe
variable (m : (ℓ : Loc nD τ sig) → Buf (Elt Ideal) ℓ)

/-- Grid point `t` works on row block `t % 3` and column block `t / 3`; the up projection's columns are 28 blocks further on. -/
theorem idx : ∀ t : Fin cfg0.N, win0_0.index t = ![t.val % 3, 0] ∧ win0_1.index t = ![t.val % 3, 0]
    ∧ win0_2.index t = ![0, t.val / 3] ∧ win0_3.index t = ![0, t.val / 3 + 28] ∧ win0_4.index t = ![0, t.val / 3]
    ∧ win0_5.index t = ![0, t.val / 3 + 28] ∧ win0_6.index t = ![0, t.val / 3] ∧ win0_7.index t = ![0, t.val / 3 + 28]
    ∧ win0_8.index t = ![t.val % 3, t.val / 3] :=
  (by decide +kernel : ∀ t : Fin grid0.N, _)

/-- One group of weights, unpacked: fields times scales. -/
theorem unpack (w : Vec Ideal S16x256 .i32) (s : Vec Ideal S1x256 .fp8e4m3) (x : S128x256.Idx) :
    k0_pay3 w s x = nib (w (ix2 ⟨(x 0).val / 8, by have := (x 0).isLt; simp at this; omega⟩ (x 1))) ((x 0).val % 8)
      * s (ix2 0 (x 1)) := by
  unfold_payloads
  pointwise
  rw [kernel_field _ _ (Nat.mod_lt _ (by omega))]

/-- What the scratch holds: the gate's weights in columns 0 … 255, the up projection's in columns 256 … 511. -/
def both (wg wu : Vec Ideal S1024x256 .i32) (gg gu : Vec Ideal S64x256 .fp8e4m3) : Vec Ideal S8192x512 .bf16 := fun y =>
  if h : (y 1).val < 256 then wt (P := 1024) (G := 64) (K := 8192) rfl rfl wg gg (y 0) ⟨(y 1).val, h⟩
  else wt (P := 1024) (G := 64) (K := 8192) rfl rfl wu gu (y 0) ⟨(y 1).val - 256, by have := (y 1).isLt; simp at this; omega⟩

/-- A group of the gate's weights stored at rows `o …` is those rows. -/
theorem gate_at (wg wu : Vec Ideal S1024x256 .i32) (gg gu : Vec Ideal S64x256 .fp8e4m3) (a b o : ℕ) (pa) (pb) (x : S128x256.Idx)
    (y : S8192x512.Idx) (ha : a = 16 * b) (ho : o = 128 * b) (h0 : (y 0).val = o + (x 0).val) (h1 : (y 1).val = (x 1).val) :
    k0_pay3 (View.ld wg (Rect.unit (s := S1024x256) ![a, 0] ![16, 256] pa)) (View.ld gg (Rect.unit (s := S64x256) ![b, 0] ![1, 256] pb)) x
      = both wg wu gg gu y := by
  have hx : (x 1).val < 256 := (x 1).isLt
  rw [unpack, both, dif_pos (by omega)]
  have e : (⟨(y 1).val, by omega⟩ : Fin 256) = x 1 := Fin.ext h1
  rw [e]
  exact piece (P := 1024) (G := 64) (K := 8192) rfl rfl wg gg a b pa pb (x 0) (x 1) (y 0) (by omega) ha

/-- A group of the up projection's weights stored at rows `o …` is those rows. -/
theorem up_at (wg wu : Vec Ideal S1024x256 .i32) (gg gu : Vec Ideal S64x256 .fp8e4m3) (a b o : ℕ) (pa) (pb) (x : S128x256.Idx)
    (y : S8192x512.Idx) (ha : a = 16 * b) (ho : o = 128 * b) (h0 : (y 0).val = o + (x 0).val) (h1 : (y 1).val = 256 + (x 1).val) :
    k0_pay3 (View.ld wu (Rect.unit (s := S1024x256) ![a, 0] ![16, 256] pa)) (View.ld gu (Rect.unit (s := S64x256) ![b, 0] ![1, 256] pb)) x
      = both wg wu gg gu y := by
  have hx : (x 1).val < 256 := (x 1).isLt
  rw [unpack, both, dif_neg (by omega)]
  have e : (⟨(y 1).val - 256, by omega⟩ : Fin 256) = x 1 := Fin.ext (by show (y 1).val - 256 = (x 1).val; omega)
  rw [e]
  exact piece (P := 1024) (G := 64) (K := 8192) rfl rfl wu gu a b pa pb (x 0) (x 1) (y 0) (by omega) ha

set_option maxHeartbeats 2000000 in
/-- Where a column block begins, the scratch takes its unpacked weights. -/
theorem scr_A (c : Dev nD) (t : Fin cfg0.N) (h : t.val % 3 = 0) :
    (outsAt0 m c t.val t.isLt).2 = both (iblk m c 2 t) (iblk m c 3 t) (iblk m c 4 t) (iblk m c 5 t) := by
  funext y
  rw [outsAt0_A m c t h]
  frame_out
  canon_tiles x h
  all_goals first
    | have hu : (y 1).val = 256 + (x 1).val := by omega
      exact up_at (iblk m c 2 t) (iblk m c 3 t) (iblk m c 4 t) (iblk m c 5 t) _ _ _ _ _ x y rfl rfl (by omega) hu
    | exact gate_at (iblk m c 2 t) (iblk m c 3 t) (iblk m c 4 t) (iblk m c 5 t) _ _ _ _ _ x y rfl rfl (by omega) (by omega)

/-- Points of one column block read the same words and the same scales. -/
theorem same_words (c : Dev nD) (n : ℕ) (hn : n + 1 < cfg0.N) (h : ¬(n + 1) % 3 = 0) :
    iblk m c 2 ⟨n, by omega⟩ = iblk m c 2 ⟨n + 1, hn⟩ ∧ iblk m c 3 ⟨n, by omega⟩ = iblk m c 3 ⟨n + 1, hn⟩
    ∧ iblk m c 4 ⟨n, by omega⟩ = iblk m c 4 ⟨n + 1, hn⟩ ∧ iblk m c 5 ⟨n, by omega⟩ = iblk m c 5 ⟨n + 1, hn⟩ := by
  have e : n / 3 = (n + 1) / 3 := by omega
  obtain ⟨-, -, a2, a3, a4, a5, -⟩ := idx ⟨n, by omega⟩
  obtain ⟨-, -, b2, b3, b4, b5, -⟩ := idx ⟨n + 1, hn⟩
  refine ⟨?_, ?_, ?_, ?_⟩ <;> funext y <;> blk_ext! [iblk, V, a2, b2, a3, b3, a4, b4, a5, b5, e]

/-- The scratch holds the unpacked weights of the point's column block. -/
theorem scr (c : Dev nD) (n : ℕ) (hn : n < cfg0.N) :
    (outsAt0 m c n hn).2
      = both (iblk m c 2 ⟨n, hn⟩) (iblk m c 3 ⟨n, hn⟩) (iblk m c 4 ⟨n, hn⟩) (iblk m c 5 ⟨n, hn⟩) := by
  induction n with
  | zero => exact scr_A m c ⟨0, hn⟩ rfl
  | succ n ih =>
    by_cases h : (n + 1) % 3 = 0
    · exact scr_A m c ⟨n + 1, hn⟩ h
    · rw [outsAt0_B m c ⟨n + 1, hn⟩ h]
      obtain ⟨e2, e3, e4, e5⟩ := same_words m c n hn h
      rw [← e2, ← e3, ← e4, ← e5]
      exact ih _

/-- One output block: silu of the gate's block times the up projection's. -/
def blockOf (a : Vec Ideal S512x8192 .fp8e4m3) (s : Vec Ideal S512x1 .f32) (wg wu : Vec Ideal S1024x256 .i32)
    (gg gu : Vec Ideal S64x256 .fp8e4m3) (cg cu : Vec Ideal S1x256 .f32) : Vec Ideal S512x256 .f32 := fun y =>
  let gate := lin (P := 1024) (G := 64) (K := 8192) rfl rfl a s wg gg (fun j => cg (ix2 0 j)) (y 0) (y 1)
  gate * Ideal.logistic gate * lin (P := 1024) (G := 64) (K := 8192) rfl rfl a s wu gu (fun j => cu (ix2 0 j)) (y 0) (y 1)

/-- The matrix product's payload, its weights the unpacked ones. -/
theorem product (a : Vec Ideal S512x8192 .fp8e4m3) (s : Vec Ideal S512x1 .f32) (wg wu : Vec Ideal S1024x256 .i32)
    (gg gu : Vec Ideal S64x256 .fp8e4m3) (cg cu : Vec Ideal S1x256 .f32) (W : Vec Ideal S8192x512 .bf16)
    (hW : W = both wg wu gg gu) :
    k0_pay2 a W s cg cu = blockOf a s wg wu gg gu cg cu := by
  have gate (k : Fin 8192) (j : Fin 256) (h : j.val < 512) :
      W (ix2 k ⟨j.val, h⟩) = wt (P := 1024) (G := 64) (K := 8192) rfl rfl wg gg k j := by
    subst hW; exact dif_pos j.isLt
  have up (k : Fin 8192) (j : Fin 256) (h : 256 + j.val < 512) :
      W (ix2 k ⟨256 + j.val, h⟩) = wt (P := 1024) (G := 64) (K := 8192) rfl rfl wu gu k j := by
    subst hW
    refine (dif_neg (by show ¬256 + j.val < 256; omega)).trans ?_
    have e : (⟨256 + j.val - 256, by omega⟩ : Fin 256) = j := Fin.ext (by show 256 + j.val - 256 = j.val; omega)
    exact congrArg (wt (P := 1024) (G := 64) (K := 8192) rfl rfl wu gu k) e
  clear hW
  funext y
  pointwise [k0_pay2, blockOf, lin]
  have eg : (∑ x : Fin 8192, a (ix2 (y 0) x) * W (ix2 x ⟨(y 1).val, by have := (y 1).isLt; simp at this; omega⟩))
      = ∑ x : Fin 8192, a (ix2 (y 0) x) * wt (P := 1024) (G := 64) (K := 8192) rfl rfl wg gg x (y 1) :=
    Finset.sum_congr rfl fun x _ => congrArg (a (ix2 (y 0) x) * ·) (gate x (y 1) _)
  have eu : (∑ x : Fin 8192, a (ix2 (y 0) x) * W (ix2 x ⟨256 + (y 1).val, by have := (y 1).isLt; simp at this; omega⟩))
      = ∑ x : Fin 8192, a (ix2 (y 0) x) * wt (P := 1024) (G := 64) (K := 8192) rfl rfl wu gu x (y 1) :=
    Finset.sum_congr rfl fun x _ => congrArg (a (ix2 (y 0) x) * ·) (up x (y 1) _)
  rw [eg, eu]

theorem out_A (c : Dev nD) (t : Fin cfg0.N) (h : t.val % 3 = 0) :
    (outsAt0 m c t.val t.isLt).1 = blockOf (iblk m c 0 t) (iblk m c 1 t) (iblk m c 2 t) (iblk m c 3 t) (iblk m c 4 t) (iblk m c 5 t)
      (iblk m c 6 t) (iblk m c 7 t) := by
  have hs := scr_A m c t h
  rw [outsAt0_A m c t h] at hs ⊢
  dsimp only at hs ⊢
  refine Eq.trans ?_ (product _ _ _ _ _ _ _ _ _ hs)
  frame_out
  refine congrArg (fun z => k0_pay2 _ z _ _ _) ?_
  exact readCov_whole _ _ _ (by decide)

theorem out_B (c : Dev nD) (t : Fin cfg0.N) (h : ¬t.val % 3 = 0) :
    (outsAt0 m c t.val t.isLt).1 = blockOf (iblk m c 0 t) (iblk m c 1 t) (iblk m c 2 t) (iblk m c 3 t) (iblk m c 4 t) (iblk m c 5 t)
      (iblk m c 6 t) (iblk m c 7 t) := by
  have hs := scr m c t.val t.isLt
  rw [outsAt0_B m c t h] at hs ⊢
  dsimp only at hs ⊢
  refine Eq.trans ?_ (product _ _ _ _ _ _ _ _ _ hs)
  frame_out
  refine congrArg (fun z => k0_pay2 _ z _ _ _) ?_
  exact Memref.IsWhole.read_unread _ _

/-- Every grid point leaves the block of its inputs. -/
theorem out (c : Dev nD) (t : Fin cfg0.N) :
    (outsAt0 m c t.val t.isLt).1 = blockOf (iblk m c 0 t) (iblk m c 1 t) (iblk m c 2 t) (iblk m c 3 t) (iblk m c 4 t) (iblk m c 5 t)
      (iblk m c 6 t) (iblk m c 7 t) := by
  by_cases h : t.val % 3 = 0
  · exact out_A m c t h
  · exact out_B m c t h

/-- The kernel's result array: silu of the gate times the up projection of its arguments. -/
theorem final (c : Dev nD) : (dats m 0 c).arrAt 8 (cfgs 0).N
    = gateUp (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t _ y => ?_
  blk_simp
  rw [after0_8, out]
  idx_vars y
  obtain ⟨p, q, hp, hq, e⟩ : ∃ (p : Fin 1536) (q : Fin 7168), p.val = t.val % 3 * 512 + y0.val ∧ q.val = t.val / 3 * 256 + y1.val
      ∧ (((View.whole main_v1).slice (win0_8.rect t)).emb (ix2 y0 y1) : S1536x7168.Idx) = ix2 p q := by
    have ht : t.val < 84 := t.isLt
    refine ⟨⟨t.val % 3 * 512 + y0.val, by omega⟩, ⟨t.val / 3 * 256 + y1.val, by omega⟩, rfl, rfl, ?_⟩
    blk_ext [idx t]
  rw [e]
  pointwise [blockOf, gateUp, lin, wt]
  blk_point [iblk, V, idx t]
end Cert.GateUpIdeal.Hand
-- ==== Proof.GateUpReference.lean ====
module

public import proofs.«01_k».proof.Defs
public import proofs.«01_k».proof.Proof.Gen.GateUpRefIdeal.Value
public import proofs.«01_k».proof.Proof.Words

@[expose] public section

set_option maxRecDepth 16384
noncomputable section

namespace Cert.GateUpRefIdeal.Hand
open Idealize.ShloMosaic Idealize.SL.Sem Cert.GateUpRefIdeal Cert.Words
open Cert.GateUpRefIdeal.Gen Idealize.ShloMosaic.TcCoe
variable (m : (ℓ : Loc nD τ sig) → Buf (Elt Ideal) ℓ)

/-- The one grid point takes every array whole. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)

/-- The last lines of the plain definition at one point: the columns up to 7168 are the gate, the others the up projection. -/
theorem halves (v : FVec Ideal S1536x14336 .f32) (j0 : Fin 1536) (j1 : Fin 7168)
    (hg : j1.val < 14336) (hu : 7168 + j1.val < 14336) :
    mulf (mulf (extractStridedSlice S1536x7168 ![0, 0] v slices_S1536x14336_o0_0_S1536x7168)
        (logistic (extractStridedSlice S1536x7168 ![0, 0] v slices_S1536x14336_o0_0_S1536x7168)))
      (extractStridedSlice S1536x7168 ![0, 7168] v slices_S1536x14336_o0_7168_S1536x7168) (ix2 j0 j1)
    = v (ix2 j0 ⟨j1.val, hg⟩) * Ideal.logistic (v (ix2 j0 ⟨j1.val, hg⟩)) * v (ix2 j0 ⟨7168 + j1.val, hu⟩) := by
  pointwise []

set_option maxHeartbeats 1000000 in
/-- The plain definition's result array: silu of the gate times the up projection of its arguments. -/
theorem final (c : Dev nD) : (dats m 0 c).arrAt 5 (cfgs 0).N
    = gateUp (m ((c : Thread nD τ).loc main_arg0)) (m ((c : Thread nD τ).loc main_arg1)) (m ((c : Thread nD τ).loc main_arg2))
      (m ((c : Thread nD τ).loc main_arg3)) (m ((c : Thread nD τ).loc main_arg4)) := by
  refine ((dats m 0 c).arrAt_eq_of_after_last 5 t0_0 (by decide +kernel) _ fun j => ?_)
  blk_simp; rw [after0_5]; frame_out
  idx_vars j
  have hg : j1.val < 14336 := by omega
  have hu : 7168 + j1.val < 14336 := by omega
  refine (halves _ j0 j1 hg hu).trans ?_
  show _ = lin (P := 1024) (G := 64) (K := 8192) rfl rfl _ _ _ _ _ j0 ⟨j1.val, hg⟩
    * Ideal.logistic (lin (P := 1024) (G := 64) (K := 8192) rfl rfl _ _ _ _ _ j0 ⟨j1.val, hg⟩)
    * lin (P := 1024) (G := 64) (K := 8192) rfl rfl _ _ _ _ _ j0 ⟨7168 + j1.val, hu⟩
  generalize (⟨7168 + j1.val, hu⟩ : Fin 14336) = u
  generalize (⟨j1.val, hg⟩ : Fin 14336) = v
  unfold_payloads
  pointwise [lin]
  have sums (j' : Fin 14336) := sum_fields (P := 1024) (G := 64) (K := 8192) rfl rfl
    (fun k => m ((c : Thread nD τ).loc main_arg0) (ix2 j0 k)) (m ((c : Thread nD τ).loc main_arg2))
    (m ((c : Thread nD τ).loc main_arg3)) j'
  rw [sums v, sums u]
  · blk_point [iblk, V, idx t0_0]
  all_goals
    intro x y _ _
    refine congrArg₂ (· * ·) ?_ (congrArg₂ (· * ·) (Eq.trans (plain_field _ _ y.isLt) (congrArg (nib · y.val) ?_)) ?_) <;>
      blk_ext! [iblk, V, idx t0_0]

end Cert.GateUpRefIdeal.Hand
-- ==== Proof.GateUpClaims.lean ====
module

public import proofs.«01_k».proof.Proof.Gen.GateUp.Frame
public import proofs.«01_k».proof.Proof.GateUpKernel
public import proofs.«01_k».proof.Proof.GateUpReference
public import Idealize.ShloMosaic.Lib.Claim

@[expose] public section

noncomputable section

namespace Cert.GateUpClaims
open Idealize.ShloMosaic Idealize.SL.Sem

/-- The printed kernel runs to an end and leaves its arguments and the machine at rest. -/
theorem frame : @Cert.quiescent_GateUp Cert.GateUp.Gen.facts := fun m g _ => Cert.GateUp.Gen.frame m g

/-- So does its idealization. -/
theorem frame_ideal : @Cert.quiescent_GateUpIdeal Cert.GateUpIdeal.Gen.facts := fun m g _ => Cert.GateUpIdeal.Gen.frame m g

/-- So does the plain definition. -/
theorem frame_reference : @Cert.quiescent_GateUpRefIdeal Cert.GateUpRefIdeal.Gen.facts :=
  fun m g _ => Cert.GateUpRefIdeal.Gen.frame m g

/-- Over the extended reals the kernel's result is the plain definition's. -/
theorem value : @Cert.algebraic_GateUpIdeal_GateUpRefIdeal Cert.GateUpIdeal.Gen.facts Cert.GateUpRefIdeal.Gen.facts := by
  pair_intro
  · run_from Cert.GateUpIdeal.Gen.run_main m g
  · run_from Cert.GateUpRefIdeal.Gen.run_main m' g'
    obtain ⟨h0, h1, h2, h3, h4⟩ := hagree c
    refine (Cert.GateUpRefIdeal.Hand.final m' c).trans (Eq.trans ?_ (Cert.GateUpIdeal.Hand.final m c).symm)
    rw [h0, h1, h2, h3, h4]

end Cert.GateUpClaims
-- ==== Proof.QuantActKernel.lean ====
module

public import proofs.«01_k».proof.Defs
public import proofs.«01_k».proof.Proof.Gen.QuantActIdeal.Value
public import proofs.«01_k».proof.Proof.Quant

@[expose] public section

set_option maxRecDepth 16384
noncomputable section

namespace Cert.QuantActIdeal.Hand
open Idealize.ShloMosaic Idealize.SL.Sem Cert.QuantActIdeal Cert.Quant
open Cert.QuantActIdeal.Gen Idealize.ShloMosaic.TcCoe
variable (m : (ℓ : Loc nD τ sig) → Buf (Elt Ideal) ℓ)

/-- Grid point `t` takes row block `t` of every array. -/
theorem idx : ∀ t : Fin cfg0.N, win0_0.index t = ![t.val, 0] ∧ win0_1.index t = ![t.val, 0] ∧ win0_2.index t = ![t.val, 0] :=
  (by decide +kernel : ∀ t : Fin grid0.N, _)

/-- The kernel's maximum over a row's magnitudes. -/
theorem amax_at (x : Vec Ideal S128x7168 .f32) (r : Fin 128) :
    (multiReduction .maximumf [1] S128 (absf x) 0xFF800000#32 reduces_S128x7168_S128 (.inl rfl) rfl : FVec Ideal S128 .f32) (ix1 r)
      = amax fun k => x (ix2 r k) := by
  pointwise [amax]

/-- The scales, given the rows' largest magnitudes `v`. -/
theorem scale_rest (v : FVec Ideal S128 .f32) (r : Fin 128) (z : Fin 1) :
    select (cmpf .ogt (shapeCast S128x1 v shapeCasts_S128_S128x1) (broadcast S128x1 (Scalar.ofBits .f32 0x00000000#32)))
      (divf (shapeCast S128x1 v shapeCasts_S128_S128x1) (broadcast S128x1 (Scalar.ofBits .f32 0x43E00000#32)))
      (broadcast S128x1 (Scalar.ofBits .f32 0x3F800000#32)) (ix2 r z)
    = if 0 < v (ix1 r) then Ideal.div (v (ix1 r)) (Ideal.ofBits .f32 0x43E00000#32) else (1 : EReal) := by
  pointwise []

/-- The scales a block of rows gets. -/
theorem scale_at (x : Vec Ideal S128x7168 .f32) (r : Fin 128) (z : Fin 1) :
    k0_pay1 x (ix2 r z) = scale fun k => x (ix2 r k) := by
  unfold scale
  rw [← amax_at x r]
  exact scale_rest _ r z

/-- The codes, given the rows' scales `s`. -/
theorem code_rest (x : FVec Ideal S128x7168 .f32) (s : FVec Ideal S128x1 .f32) (r : Fin 128) (k : Fin 7168) :
    truncf .fp8e4m3 (minimumf (broadcast S128x7168 (Scalar.ofBits .f32 0x43E00000#32)) (maximumf
      (broadcast S128x7168 (Scalar.ofBits .f32 0xC3E00000#32)) (divf x (broadcastTo S128x7168 s broadcasts_S128x1_S128x7168))))
      bitsLt_fp8e4m3_f32 (ix2 r k)
    = min (Ideal.ofBits .f32 0x43E00000#32) (max (Ideal.ofBits .f32 0xC3E00000#32) (Ideal.div (x (ix2 r k)) (s (ix2 r 0)))) := by
  pointwise []

/-- The codes a block of rows gets. -/
theorem code_at (x : Vec Ideal S128x7168 .f32) (r : Fin 128) (k : Fin 7168) :
    k0_pay2 x (ix2 r k) = code (fun k => x (ix2 r k)) k := by
  unfold code
  rw [← scale_at x r 0]
  exact code_rest x _ r k

/-- The kernel's codes after the run. -/
theorem codes (c : Dev nD) : (dats m 0 c).arrAt 1 (cfgs 0).N
    = fun i => code (fun k => m ((c : Thread nD τ).loc main_arg0) (ix2 (i 0) k)) (i 1) := by
  refine (dats m 0 c).arrAt_eq_of_covers 1 _ (by decide +kernel) fun t _ y => ?_
  blk_simp; rw [after0_1]; frame_out
  idx_vars y
  rw [code_at]
  refine congrArg₂ code (funext fun k => ?_) (Fin.ext ?_)
  · blk_ext [iblk, V, idx t]
  · blk_simp [idx t]

/-- The kernel's scales after the run. -/
theorem scales (c : Dev nD) : (dats m 0 c).arrAt 2 (cfgs 0).N
    = fun i => scale (fun k => m ((c : Thread nD τ).loc main_arg0) (ix2 (i 0) k)) := by
  refine (dats m 0 c).arrAt_eq_of_covers 2 _ (by decide +kernel) fun t _ y => ?_
  blk_simp; rw [after0_2]; frame_out
  idx_vars y
  rw [scale_at]
  exact congrArg scale (funext fun k => by blk_ext [iblk, V, idx t])

end Cert.QuantActIdeal.Hand
-- ==== Proof.QuantActReference.lean ====
module

public import proofs.«01_k».proof.Defs
public import proofs.«01_k».proof.Proof.Gen.QuantActRefIdeal
public import proofs.«01_k».proof.Proof.Quant

@[expose] public section

set_option maxRecDepth 16384
noncomputable section

namespace Cert.QuantActRefIdeal.Hand
open Idealize.ShloMosaic Idealize.SL.Sem Cert.QuantActRefIdeal Cert.Quant
open Cert.QuantActRefIdeal.Gen

/-- The rows' largest magnitudes, as the plain definition takes them. -/
abbrev largest (x : FVec Ideal S1536x7168 .f32) : FVec Ideal S1536 .f32 :=
  Host.reduce FloatOps.maximumf (Host.absf x) (constant S_ .f32 0xFF800000#32) Gen.reducesTo_S1536x7168_S1536_d1 Gen.h_S_

/-- The scales, given the rows' largest magnitudes `v`. -/
abbrev scalesOf (v : FVec Ideal S1536 .f32) : FVec Ideal S1536 .f32 :=
  select (cmpf .ogt v (broadcastInDim S1536 ![] Gen.bcast_S_S1536 (constant S_ .f32 0x00000000#32)))
    (Host.divf v (broadcastInDim S1536 ![] Gen.bcast_S_S1536 (constant S_ .f32 0x43E00000#32)))
    (broadcastInDim S1536 ![] Gen.bcast_S_S1536 (constant S_ .f32 0x3F800000#32))

/-- The codes, given the scales `s`. -/
abbrev codesOf (x : FVec Ideal S1536x7168 .f32) (s : FVec Ideal S1536 .f32) : FVec Ideal S1536x7168 .fp8e4m3 :=
  Host.convertf .fp8e4m3 (minimumf (broadcastInDim S1536x7168 ![] Gen.bcast_S_S1536x7168 (constant S_ .f32 0x43E00000#32))
    (maximumf (broadcastInDim S1536x7168 ![] Gen.bcast_S_S1536x7168 (constant S_ .f32 0xC3E00000#32))
      (Host.divf x (broadcastInDim S1536x7168 ![0, 1] Gen.bcast_S1536x1_S1536x7168_0_1
        (broadcastInDim S1536x1 ![0] Gen.bcast_S1536_S1536x1_0 s)))))

/-- A row's largest magnitude. -/
theorem largest_at (x : FVec Ideal S1536x7168 .f32) (r : Fin 1536) : largest x (ix1 r) = amax fun k => x (ix2 r k) := by
  pointwise [amax]

/-- A row's scale, given the largest magnitudes. -/
theorem scale_rest (v : FVec Ideal S1536 .f32) (r : Fin 1536) :
    scalesOf v (ix1 r) = if 0 < v (ix1 r) then Ideal.div (v (ix1 r)) (Ideal.ofBits .f32 0x43E00000#32) else (1 : EReal) := by
  pointwise []

/-- A row's scale. -/
theorem scale_at (x : FVec Ideal S1536x7168 .f32) (r : Fin 1536) :
    scalesOf (largest x) (ix1 r) = scale fun k => x (ix2 r k) := by
  unfold scale
  rw [← largest_at x r]
  exact scale_rest _ r

/-- A column of scales holds each row's scale. -/
theorem column_at (s : FVec Ideal S1536 .f32) (r : Fin 1536) (z : Fin 1) :
    shapeCast S1536x1 s Gen.shapeCasts_S1536_S1536x1 (ix2 r z) = s (ix1 r) := by
  pointwise []

/-- A code, given the scales. -/
theorem code_rest (x : FVec Ideal S1536x7168 .f32) (s : FVec Ideal S1536 .f32) (r : Fin 1536) (k : Fin 7168) :
    codesOf x s (ix2 r k)
    = min (Ideal.ofBits .f32 0x43E00000#32) (max (Ideal.ofBits .f32 0xC3E00000#32) (Ideal.div (x (ix2 r k)) (s (ix1 r)))) := by
  pointwise []

/-- The plain definition's codes. -/
theorem codes (x : FVec Ideal S1536x7168 .f32) : codesOf x (scalesOf (largest x)) = fun i => code (fun k => x (ix2 (i 0) k)) (i 1) := by
  funext i
  idx_vars i
  unfold code
  refine (code_rest x _ _ _).trans ?_
  rw [scale_at]

/-- The plain definition's scales. -/
theorem scales (x : FVec Ideal S1536x7168 .f32) :
    shapeCast S1536x1 (scalesOf (largest x)) Gen.shapeCasts_S1536_S1536x1 = fun i => scale fun k => x (ix2 (i 0) k) := by
  funext i
  idx_vars i
  exact (column_at _ _ _).trans (scale_at x _)

end Cert.QuantActRefIdeal.Hand
-- ==== Proof.QuantActClaims.lean ====
module

public import proofs.«01_k».proof.Defs
public import proofs.«01_k».proof.Proof.Gen.QuantAct.Frame
public import proofs.«01_k».proof.Proof.Gen.QuantActIdeal.Frame
public import proofs.«01_k».proof.Proof.Gen.QuantActRefIdeal
public import proofs.«01_k».proof.Proof.QuantActKernel
public import proofs.«01_k».proof.Proof.QuantActReference

@[expose] public section

set_option maxRecDepth 16384
noncomputable section

namespace Cert.QuantActClaims
open Idealize.ShloMosaic Idealize.SL.Sem Cert.Quant

/-- The printed call runs, keeps its argument and ends quiet. -/
theorem frame : @Cert.quiescent_QuantAct Cert.QuantAct.Gen.facts := fun m g _ => Cert.QuantAct.Gen.frame m g

/-- So does its idealization. -/
theorem frame_ideal : @Cert.quiescent_QuantActIdeal Cert.QuantActIdeal.Gen.facts := fun m g _ => Cert.QuantActIdeal.Gen.frame m g

/-- So does the plain definition. -/
theorem frame_reference : @Cert.quiescent_QuantActRefIdeal Cert.QuantActRefIdeal.Gen.facts := by
  intro m g _
  hlo_run
  · exact fun _ => trivial
  · exact sem_eq_zero_of_no_sems (by decide) r.2

/-- The idealized call's codes and scales are the plain definition's. -/
theorem value : @Cert.algebraic_QuantActIdeal_QuantActRefIdeal Cert.QuantActIdeal.Gen.facts Cert.QuantActRefIdeal.Gen.facts := by
  pair_intro
  · run_from Cert.QuantActIdeal.Gen.run_main m g
  · hlo_run
    all_goals simp -implicitDefEqProofs only [StableHlo.TRef.toBuf, StableHlo.TRef.ofBuf, cast_cast, cast_eq]
    · exact (Cert.QuantActRefIdeal.Hand.codes _).trans (Cert.QuantActIdeal.Hand.codes m c).symm
    · exact (Cert.QuantActRefIdeal.Hand.scales _).trans (Cert.QuantActIdeal.Hand.scales m c).symm
end Cert.QuantActClaims
-- ==== Proof.DownKernel.lean ====
module

public import proofs.«01_k».proof.Defs
public import proofs.«01_k».proof.Proof.Gen.DownIdeal.Value
public import proofs.«01_k».proof.Proof.Words

@[expose] public section

set_option maxRecDepth 16384
noncomputable section

namespace Cert.DownIdeal.Hand
open Idealize.ShloMosaic Idealize.SL.Sem Cert.DownIdeal Cert.Words
open Cert.DownIdeal.Gen Idealize.ShloMosaic.TcCoe
variable (m : (ℓ : Loc nD τ sig) → Buf (Elt Ideal) ℓ)

/-- Grid point `t` works on row block `t % 3` and column block `t / 3`. -/
theorem idx : ∀ t : Fin cfg0.N, win0_0.index t = ![t.val % 3, 0] ∧ win0_1.index t = ![t.val % 3, 0]
    ∧ win0_2.index t = ![0, t.val / 3] ∧ win0_3.index t = ![0, t.val / 3] ∧ win0_4.index t = ![0, t.val / 3]
    ∧ win0_5.index t = ![t.val % 3, t.val / 3] ∧ win0_6.index t = ![t.val % 3, t.val / 3] :=
  (by decide +kernel : ∀ t : Fin grid0.N, _)

/-- One group of weights, unpacked: fields times scales. -/
theorem unpack (w : Vec Ideal S16x512 .i32) (s : Vec Ideal S1x512 .fp8e4m3) (x : S128x512.Idx) :
    k0_pay3 w s x = nib (w (ix2 ⟨(x 0).val / 8, by have := (x 0).isLt; simp at this; omega⟩ (x 1))) ((x 0).val % 8)
      * s (ix2 0 (x 1)) := by
  unfold_payloads
  pointwise
  rw [kernel_field _ _ (Nat.mod_lt _ (by omega))]

/-- A group of weights stored at rows `o …` is those rows of the weights. -/
theorem unpack_at (w : Vec Ideal S896x512 .i32) (s : Vec Ideal S56x512 .fp8e4m3) (a b o : ℕ) (pa) (pb) (x : S128x512.Idx)
    (y : S7168x512.Idx) (ha : a = 16 * b) (ho : o = 128 * b) (h0 : (y 0).val = o + (x 0).val) (h1 : (y 1).val = 0 + (x 1).val) :
    k0_pay3 (View.ld w (Rect.unit (s := S896x512) ![a, 0] ![16, 512] pa)) (View.ld s (Rect.unit (s := S56x512) ![b, 0] ![1, 512] pb)) x
      = wt (P := 896) (G := 56) (K := 7168) rfl rfl w s (y 0) (y 1) := by
  rw [unpack, ← piece (P := 896) (G := 56) (K := 7168) rfl rfl w s a b pa pb (x 0) (y 1) (y 0) (by omega) ha]
  have e : x 1 = y 1 := Fin.ext (by omega)
  rw [e]

/-- Where a column block begins, the scratch takes its unpacked weights. -/
theorem scr_A (c : Dev nD) (t : Fin cfg0.N) (h : t.val % 3 = 0) :
    (outsAt0 m c t.val t.isLt).2 = fun y => wt (P := 896) (G := 56) (K := 7168) rfl rfl (iblk m c 2 t) (iblk m c 3 t) (y 0) (y 1) := by
  funext y
  rw [outsAt0_A m c t h]
  frame_out
  canon_tiles x h
  all_goals exact unpack_at (iblk m c 2 t) (iblk m c 3 t) _ _ _ _ _ x y rfl rfl (by omega) (by omega)

/-- Points of one column block read the same words and the same scales. -/
theorem same_words (c : Dev nD) (n : ℕ) (hn : n + 1 < cfg0.N) (h : ¬(n + 1) % 3 = 0) :
    iblk m c 2 ⟨n, by omega⟩ = iblk m c 2 ⟨n + 1, hn⟩ ∧ iblk m c 3 ⟨n, by omega⟩ = iblk m c 3 ⟨n + 1, hn⟩ := by
  have e : n / 3 = (n + 1) / 3 := by omega
  obtain ⟨-, -, a2, a3, -⟩ := idx ⟨n, by omega⟩
  obtain ⟨-, -, b2, b3, -⟩ := idx ⟨n + 1, hn⟩
  constructor <;> funext y <;> blk_ext! [iblk, V, a2, b2, a3, b3, e]

/-- The scratch holds the unpacked weights of the point's column block. -/
theorem scr (c : Dev nD) (n : ℕ) (hn : n < cfg0.N) :
    (outsAt0 m c n hn).2
      = fun y => wt (P := 896) (G := 56) (K := 7168) rfl rfl (iblk m c 2 ⟨n, hn⟩) (iblk m c 3 ⟨n, hn⟩) (y 0) (y 1) := by
  induction n with
  | zero => exact scr_A m c ⟨0, hn⟩ rfl
  | succ n ih =>
    by_cases h : (n + 1) % 3 = 0
    · exact scr_A m c ⟨n + 1, hn⟩ h
    · rw [outsAt0_B m c ⟨n + 1, hn⟩ h]
      obtain ⟨e2, e3⟩ := same_words m c n hn h
      rw [← e2, ← e3]
      exact ih _

/-- One output block: the linear layer of the blocks added to the residual's. -/
def blockOf (a : Vec Ideal S512x7168 .fp8e4m3) (s : Vec Ideal S512x1 .f32) (w : Vec Ideal S896x512 .i32)
    (g : Vec Ideal S56x512 .fp8e4m3) (c : Vec Ideal S1x512 .f32) (r : Vec Ideal S512x512 .f32) : Vec Ideal S512x512 .bf16 :=
  fun y => r y + lin (P := 896) (G := 56) (K := 7168) rfl rfl a s w g (fun j => c (ix2 0 j)) (y 0) (y 1)

/-- The matrix product's payload, its weights the unpacked ones. -/
theorem product (a : Vec Ideal S512x7168 .fp8e4m3) (s : Vec Ideal S512x1 .f32) (w : Vec Ideal S896x512 .i32)
    (g : Vec Ideal S56x512 .fp8e4m3) (c : Vec Ideal S1x512 .f32) (r : Vec Ideal S512x512 .f32) (W : Vec Ideal S7168x512 .bf16)
    (hW : W = fun y => wt (P := 896) (G := 56) (K := 7168) rfl rfl w g (y 0) (y 1)) :
    k0_pay2 a W r s c = blockOf a s w g c r := by
  subst hW
  funext y
  pointwise [k0_pay2, blockOf, lin]

theorem out_A (c : Dev nD) (t : Fin cfg0.N) (h : t.val % 3 = 0) :
    (outsAt0 m c t.val t.isLt).1 = blockOf (iblk m c 0 t) (iblk m c 1 t) (iblk m c 2 t) (iblk m c 3 t) (iblk m c 4 t) (iblk m c 5 t) := by
  have hs := scr_A m c t h
  rw [outsAt0_A m c t h] at hs ⊢
  dsimp only at hs ⊢
  refine Eq.trans ?_ (product _ _ _ _ _ _ _ hs)
  frame_out
  refine congrArg (fun z => k0_pay2 _ z _ _ _) ?_
  exact readCov_whole _ _ _ (by decide)

theorem out_B (c : Dev nD) (t : Fin cfg0.N) (h : ¬t.val % 3 = 0) :
    (outsAt0 m c t.val t.isLt).1 = blockOf (iblk m c 0 t) (iblk m c 1 t) (iblk m c 2 t) (iblk m c 3 t) (iblk m c 4 t) (iblk m c 5 t) := by
  have hs := scr m c t.val t.isLt
  rw [outsAt0_B m c t h] at hs ⊢
  dsimp only at hs ⊢
  refine Eq.trans ?_ (product _ _ _ _ _ _ _ hs)
  frame_out
  refine congrArg (fun z => k0_pay2 _ z _ _ _) ?_
  exact Memref.IsWhole.read_unread _ _

/-- Every grid point leaves the block of its inputs. -/
theorem out (c : Dev nD) (t : Fin cfg0.N) :
    (outsAt0 m c t.val t.isLt).1 = blockOf (iblk m c 0 t) (iblk m c 1 t) (iblk m c 2 t) (iblk m c 3 t) (iblk m c 4 t) (iblk m c 5 t) := by
  by_cases h : t.val % 3 = 0
  · exact out_A m c t h
  · exact out_B m c t h

/-- The kernel's result array: the down projection of its arguments. -/
theorem final (c : Dev nD) : (dats m 0 c).arrAt 6 (cfgs 0).N
    = down (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out]
  pointwise [blockOf, down, lin, wt]
  blk_point [iblk, V, idx t]
end Cert.DownIdeal.Hand
-- ==== Proof.DownReference.lean ====
module

public import proofs.«01_k».proof.Defs
public import proofs.«01_k».proof.Proof.Gen.DownRefIdeal.Value
public import proofs.«01_k».proof.Proof.Words

@[expose] public section

set_option maxRecDepth 16384
noncomputable section

namespace Cert.DownRefIdeal.Hand
open Idealize.ShloMosaic Idealize.SL.Sem Cert.DownRefIdeal Cert.Words
open Cert.DownRefIdeal.Gen Idealize.ShloMosaic.TcCoe
variable (m : (ℓ : Loc nD τ sig) → Buf (Elt Ideal) ℓ)

/-- The one grid point takes every array whole. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The plain definition's result array: the down projection of its arguments. -/
theorem final (c : Dev nD) : (dats m 0 c).arrAt 6 (cfgs 0).N
    = down (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((dats m 0 c).arrAt_eq_of_after_last 6 t0_0 (by decide +kernel) _ fun j => ?_)
  blk_simp; rw [after0_6]; frame_out
  unfold_payloads
  pointwise [down, lin]
  rw [sum_fields (P := 896) (G := 56) (K := 7168) rfl rfl (fun k => m ((c : Thread nD τ).loc main_arg0) (ix2 (j 0) k))
    (m ((c : Thread nD τ).loc main_arg2)) (m ((c : Thread nD τ).loc main_arg3)) (j 1)]
  · blk_point [iblk, V, idx t0_0]
  · intro x y _ _
    refine congrArg₂ (· * ·) ?_ (congrArg₂ (· * ·) (Eq.trans (plain_field _ _ y.isLt) (congrArg (nib · y.val) ?_)) ?_) <;>
      blk_ext! [iblk, V, idx t0_0]

end Cert.DownRefIdeal.Hand
-- ==== Proof.DownClaims.lean ====
module

public import proofs.«01_k».proof.Proof.Gen.Down.Frame
public import proofs.«01_k».proof.Proof.DownKernel
public import proofs.«01_k».proof.Proof.DownReference
public import Idealize.ShloMosaic.Lib.Claim

@[expose] public section

noncomputable section

namespace Cert.DownClaims
open Idealize.ShloMosaic Idealize.SL.Sem

/-- The printed kernel runs to an end and leaves its arguments and the machine at rest. -/
theorem frame : @Cert.quiescent_Down Cert.Down.Gen.facts := fun m g _ => Cert.Down.Gen.frame m g

/-- So does its idealization. -/
theorem frame_ideal : @Cert.quiescent_DownIdeal Cert.DownIdeal.Gen.facts := fun m g _ => Cert.DownIdeal.Gen.frame m g

/-- So does the plain definition. -/
theorem frame_reference : @Cert.quiescent_DownRefIdeal Cert.DownRefIdeal.Gen.facts :=
  fun m g _ => Cert.DownRefIdeal.Gen.frame m g

/-- Over the extended reals the kernel's result is the plain definition's. -/
theorem value : @Cert.algebraic_DownIdeal_DownRefIdeal Cert.DownIdeal.Gen.facts Cert.DownRefIdeal.Gen.facts := by
  pair_intro
  · run_from Cert.DownIdeal.Gen.run_main m g
  · run_from Cert.DownRefIdeal.Gen.run_main m' g'
    obtain ⟨h0, h1, h2, h3, h4, h5⟩ := hagree c
    refine (Cert.DownRefIdeal.Hand.final m' c).trans (Eq.trans ?_ (Cert.DownIdeal.Hand.final m c).symm)
    rw [h0, h1, h2, h3, h4, h5]

end Cert.DownClaims
-- ==== Proof.lean ====
module

public import proofs.«01_k».proof.Defs
public import proofs.«01_k».proof.Proof.NormQuantXClaims
public import proofs.«01_k».proof.Proof.QkvClaims
public import proofs.«01_k».proof.Proof.QuantAttnClaims
public import proofs.«01_k».proof.Proof.OProjClaims
public import proofs.«01_k».proof.Proof.NormQuantHClaims
public import proofs.«01_k».proof.Proof.GateUpClaims
public import proofs.«01_k».proof.Proof.QuantActClaims
public import proofs.«01_k».proof.Proof.DownClaims

@[expose] public section

/-! The proof of `Cert.Claim`: every call's frames and value claim, from the call's own `…Claims` module. -/

noncomputable section

namespace Cert.Proof

/-- Everything the certificate claims. -/
theorem claim : Cert.Claim :=
  ⟨Cert.NormQuantX.Gen.facts, Cert.NormQuantXIdeal.Gen.facts, Cert.NormQuantXRefIdeal.Gen.facts,
   Cert.Qkv.Gen.facts, Cert.QkvIdeal.Gen.facts, Cert.QkvRefIdeal.Gen.facts,
   Cert.QuantAttn.Gen.facts, Cert.QuantAttnIdeal.Gen.facts, Cert.QuantAttnRefIdeal.Gen.facts,
   Cert.OProj.Gen.facts, Cert.OProjIdeal.Gen.facts, Cert.OProjRefIdeal.Gen.facts,
   Cert.NormQuantH.Gen.facts, Cert.NormQuantHIdeal.Gen.facts, Cert.NormQuantHRefIdeal.Gen.facts,
   Cert.GateUp.Gen.facts, Cert.GateUpIdeal.Gen.facts, Cert.GateUpRefIdeal.Gen.facts,
   Cert.QuantAct.Gen.facts, Cert.QuantActIdeal.Gen.facts, Cert.QuantActRefIdeal.Gen.facts,
   Cert.Down.Gen.facts, Cert.DownIdeal.Gen.facts, Cert.DownRefIdeal.Gen.facts,
   Cert.NormQuantXClaims.frame, Cert.NormQuantXClaims.frame_ideal, Cert.NormQuantXClaims.frame_reference,
   Cert.QkvClaims.frame, Cert.QkvClaims.frame_ideal, Cert.QkvClaims.frame_reference,
   Cert.QuantAttnClaims.frame, Cert.QuantAttnClaims.frame_ideal, Cert.QuantAttnClaims.frame_reference,
   Cert.OProjClaims.frame, Cert.OProjClaims.frame_ideal, Cert.OProjClaims.frame_reference,
   Cert.NormQuantHClaims.frame, Cert.NormQuantHClaims.frame_ideal, Cert.NormQuantHClaims.frame_reference,
   Cert.GateUpClaims.frame, Cert.GateUpClaims.frame_ideal, Cert.GateUpClaims.frame_reference,
   Cert.QuantActClaims.frame, Cert.QuantActClaims.frame_ideal, Cert.QuantActClaims.frame_reference,
   Cert.DownClaims.frame, Cert.DownClaims.frame_ideal, Cert.DownClaims.frame_reference,
   trivial, Cert.NormQuantXClaims.value,
   trivial, Cert.QkvClaims.value,
   trivial, Cert.QuantAttnClaims.value,
   trivial, Cert.OProjClaims.value,
   trivial, Cert.NormQuantHClaims.value,
   trivial, Cert.GateUpClaims.value,
   trivial, Cert.QuantActClaims.value,
   trivial, Cert.DownClaims.value⟩

end Cert.Proof

end
